-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range_KernelIdeal [hPre_ids_in_range_KernelIdeal : Cert.Pre_ids_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range_ReferenceIdeal [hPre_ids_in_range_ReferenceIdeal : Cert.Pre_ids_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_range_KernelIdeal [hKernelIdeal : Cert.KernelIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_range_ReferenceIdeal [hReferenceIdeal : Cert.ReferenceIdeal.Facts] [hPre_ids_in_range_ReferenceIdeal : Cert.Pre_ids_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_range_KernelIdeal [hKernelIdeal : Cert.KernelIdeal.Facts] [hReferenceIdeal : Cert.ReferenceIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 2048]⟩ ⟨2, ![16384, 2048]⟩ (Layout.meshBlock [2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_range_KernelIdeal : Cert.Pre_ids_in_range_KernelIdeal.Facts) (hPre_ids_in_range_ReferenceIdeal : Cert.Pre_ids_in_range_ReferenceIdeal.Facts),
    quiescent_Kernel (hKernel := hKernel)
    ∧ quiescent_KernelIdeal (hKernelIdeal := hKernelIdeal)
    ∧ quiescent_KernelIdeal_pre_ids_in_range_KernelIdeal (hKernelIdeal := hKernelIdeal) (hPre_ids_in_range_KernelIdeal := hPre_ids_in_range_KernelIdeal)
    ∧ quiescent_ReferenceIdeal (hReferenceIdeal := hReferenceIdeal)
    ∧ quiescent_ReferenceIdeal_pre_ids_in_range_ReferenceIdeal (hReferenceIdeal := hReferenceIdeal) (hPre_ids_in_range_ReferenceIdeal := hPre_ids_in_range_ReferenceIdeal)
    ∧ preserves_Kernel_KernelIdeal
    ∧ algebraic_KernelIdeal_ReferenceIdeal_pre_ids_in_range_KernelIdeal (hKernelIdeal := hKernelIdeal) (hReferenceIdeal := hReferenceIdeal) (hPre_ids_in_range_KernelIdeal := hPre_ids_in_range_KernelIdeal)
-- ==== Pre_ids_in_range_KernelIdeal.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S_ 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 16384#32
  let main_v2 : IVec S4096 32 := broadcastInDim S4096 ![] bcast_S_S4096 main_c_0
  let main_v3 : IVec S4096 1 := cmpi .slt main_arg0 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Pre_ids_in_range_ReferenceIdeal.lean ====
abbrev S4096 : Shape := ⟨1, ![4096]⟩
abbrev S16384x2048 : Shape := ⟨2, ![16384, 2048]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : IVec S4096 32) (main_arg1 : FVec F S16384x2048 .f32) : IVec S_ 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 16384#32
  let main_v2 : IVec S4096 32 := broadcastInDim S4096 ![] bcast_S_S4096 main_c_0
  let main_v3 : IVec S4096 1 := cmpi .slt main_arg0 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Kernel.lean ====
abbrev S4096 : Shape := ⟨1, ![4096]⟩
abbrev S8192x2048 : Shape := ⟨2, ![8192, 2048]⟩
abbrev S_ : Shape := ⟨0, ![]⟩
abbrev S2048 : Shape := ⟨1, ![2048]⟩
abbrev S2048x1 : Shape := ⟨2, ![2048, 1]⟩
abbrev S4096x2048 : Shape := ⟨2, ![4096, 2048]⟩
abbrev S4x128x2048 : Shape := ⟨3, ![4, 128, 2048]⟩
abbrev S2048x2048 : Shape := ⟨2, ![2048, 2048]⟩
abbrev S16 : Shape := ⟨1, ![16]⟩
abbrev S1 : Shape := ⟨1, ![1]⟩
abbrev S1x128x2048 : Shape := ⟨3, ![1, 128, 2048]⟩
abbrev S128x2048 : Shape := ⟨2, ![128, 2048]⟩
abbrev S128x1 : Shape := ⟨2, ![128, 1]⟩
abbrev S128x8192 : Shape := ⟨2, ![128, 8192]⟩

abbrev nBuf : Space → Nat
  | .hbm => 29
  | .vmem => 4
  | .smem => 0
  | _ => 0

abbrev bufTy : (tb : Table) → Fin (tcTables nBuf tb) → BufTy
  | .hbm, ⟨0, _⟩ => ⟨S4096, .i32⟩
  | .hbm, ⟨1, _⟩ => ⟨S8192x2048, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2048, .i32⟩
  | .hbm, ⟨22, _⟩ => ⟨S_, .i32⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S8192x2048, .bf16⟩
  | .hbm, ⟨28, _⟩ => ⟨S4096x2048, .f32⟩
  | .local _ .vmem, ⟨0, _⟩ => ⟨S2048x1, .i32⟩
  | .local _ .vmem, ⟨1, _⟩ => ⟨S8192x2048, .bf16⟩
  | .local _ .vmem, ⟨2, _⟩ => ⟨S4x128x2048, .f32⟩
  | .local _ .vmem, ⟨3, _⟩ => ⟨S2048x2048, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  (ofTc nBuf bufTy 1 82 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_3 : Ref sig .tc := ⟨.hbm, 14, rfl⟩
abbrev main_v9 : Ref sig .tc := ⟨.hbm, 15, rfl⟩
abbrev main_c_4 : Ref sig .tc := ⟨.hbm, 16, rfl⟩
abbrev main_v10 : Ref sig .tc := ⟨.hbm, 17, rfl⟩
abbrev main_c_5 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_6 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v10 : BitVec 32 := Scalar.muli v2 c2_i32_5
  let v11 : BitVec 32 := Scalar.addi c0_i32 v10
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_2 v5
  let c1_i32_6 : BitVec 32 := 1#32
  let v12 : BitVec 32 := Scalar.muli v8 c1_i32_6
  let v13 : BitVec 32 := Scalar.addi v11 v12
  v13.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_3 v2
  let c2_i32_8 : BitVec 32 := 2#32
  let v14 : BitVec 32 := Scalar.muli v9 c2_i32_8
  let v15 : BitVec 32 := Scalar.addi c0_i32_9 v14
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v16 : BitVec 32 := Scalar.muli v5 c1_i32_10
  let v17 : BitVec 32 := Scalar.addi v15 v16
  v17.toNat
@[reducible] def k0_t1_loop : Scf.Loop 32 :=
  let c0_i32_12 : BitVec 32 := 0#32
  let c17_i32 : BitVec 32 := 17#32
  let v18 : BitVec 32 := Scalar.addi c0_i32_12 c17_i32
  let c1_i32_13 : BitVec 32 := 1#32
  ⟨c0_i32_12, v18, c1_i32_13⟩
def k0_cond1 (k0_t1 : Fin k0_t1_loop.trips) : BitVec 1 :=
  let c0_i32_12 : BitVec 32 := 0#32
  let c1_i32_13 : BitVec 32 := 1#32
  let arg10 : BitVec 32 := Scf.iv c0_i32_12 c1_i32_13 k0_t1
  let c16_i32_18 : BitVec 32 := 16#32
  let v20 : BitVec 1 := Scalar.cmpi .slt arg10 c16_i32_18
  let v21 : BitVec 32 := Scalar.extui v20
  let c0_i32_19 : BitVec 32 := 0#32
  let v22 : BitVec 1 := Scalar.cmpi .ne v21 c0_i32_19
  v22

def k0_cond2 (k0_t1 : Fin k0_t1_loop.trips) : BitVec 1 :=
  let c0_i32_12 : BitVec 32 := 0#32
  let c1_i32_13 : BitVec 32 := 1#32
  let arg10 : BitVec 32 := Scf.iv c0_i32_12 c1_i32_13 k0_t1
  let c4_i32 : BitVec 32 := 4#32
  let v26 : BitVec 1 := Scalar.cmpi .sge arg10 c4_i32
  let v27 : BitVec 32 := Scalar.extui v26
  let c0_i32_22 : BitVec 32 := 0#32
  let v28 : BitVec 1 := Scalar.cmpi .ne v27 c0_i32_22
  v28

def k0_mult1 (k0_t1 : Fin k0_t1_loop.trips) : BitVec 32 :=
  let c0_i32_42 : BitVec 32 := 0#32
  let c0_i32_12 : BitVec 32 := 0#32
  let c1_i32_13 : BitVec 32 := 1#32
  let arg10 : BitVec 32 := Scf.iv c0_i32_12 c1_i32_13 k0_t1
  let c4_i32_39 : BitVec 32 := 4#32
  let v65 : BitVec 32 := Scalar.subi arg10 c4_i32_39
  let c128_i32_41 : BitVec 32 := 128#32
  let v67 : BitVec 32 := Scalar.muli v65 c128_i32_41
  let v68 : BitVec 32 := Scalar.addi c0_i32_42 v67
  v68
def k0_off1 (k0_t1 : Fin k0_t1_loop.trips) : Fin 1 → Nat :=
  let c0_i32_12 : BitVec 32 := 0#32
  let c1_i32_13 : BitVec 32 := 1#32
  let arg10 : BitVec 32 := Scf.iv c0_i32_12 c1_i32_13 k0_t1
  let c4_i32_39 : BitVec 32 := 4#32
  let v65 : BitVec 32 := Scalar.subi arg10 c4_i32_39
  ![v65.toNat]
def k0_off2 (k0_t1 : Fin k0_t1_loop.trips) : Fin 3 → Nat :=
  let c0_i32_12 : BitVec 32 := 0#32
  let c1_i32_13 : BitVec 32 := 1#32
  let arg10 : BitVec 32 := Scf.iv c0_i32_12 c1_i32_13 k0_t1
  let c4_i32_39 : BitVec 32 := 4#32
  let v65 : BitVec 32 := Scalar.subi arg10 c4_i32_39
  let c4_i32_40 : BitVec 32 := 4#32
  let v66 : BitVec 32 := Scalar.remsi v65 c4_i32_40
  let c0_i32_45 : BitVec 32 := 0#32
  let c0_i32_46 : BitVec 32 := 0#32
  ![v66.toNat, 0, 0]
def k0_off3 (k0_t1 : Fin k0_t1_loop.trips) : Fin 2 → Nat :=
  let c0_i32_42 : BitVec 32 := 0#32
  let c0_i32_12 : BitVec 32 := 0#32
  let c1_i32_13 : BitVec 32 := 1#32
  let arg10 : BitVec 32 := Scf.iv c0_i32_12 c1_i32_13 k0_t1
  let c4_i32_39 : BitVec 32 := 4#32
  let v65 : BitVec 32 := Scalar.subi arg10 c4_i32_39
  let c128_i32_41 : BitVec 32 := 128#32
  let v67 : BitVec 32 := Scalar.muli v65 c128_i32_41
  let v68 : BitVec 32 := Scalar.addi c0_i32_42 v67
  let v69 : BitVec 32 := v68
  let c0_i32_47 : BitVec 32 := 0#32
  ![v69.toNat, 0]
def k0_mult2 (k0_t1 : Fin k0_t1_loop.trips) : BitVec 32 :=
  let c0_i32_24 : BitVec 32 := 0#32
  let c0_i32_12 : BitVec 32 := 0#32
  let c1_i32_13 : BitVec 32 := 1#32
  let arg10 : BitVec 32 := Scf.iv c0_i32_12 c1_i32_13 k0_t1
  let c128_i32 : BitVec 32 := 128#32
  let v30 : BitVec 32 := Scalar.muli arg10 c128_i32
  let v31 : BitVec 32 := Scalar.addi c0_i32_24 v30
  v31
def k0_off4 (k0_t1 : Fin k0_t1_loop.trips) : Fin 2 → Nat :=
  let c0_i32_24 : BitVec 32 := 0#32
  let c0_i32_12 : BitVec 32 := 0#32
  let c1_i32_13 : BitVec 32 := 1#32
  let arg10 : BitVec 32 := Scf.iv c0_i32_12 c1_i32_13 k0_t1
  let c128_i32 : BitVec 32 := 128#32
  let v30 : BitVec 32 := Scalar.muli arg10 c128_i32
  let v31 : BitVec 32 := Scalar.addi c0_i32_24 v30
  let v32 : BitVec 32 := v31
  let v33 : Index := Scalar.indexCast v32
  let c0 : Index := 0#32
  ![v33.toNat, 0]
def k0_off5 (k0_t1 : Fin k0_t1_loop.trips) : Fin 3 → Nat :=
  let c0_i32_12 : BitVec 32 := 0#32
  let c1_i32_13 : BitVec 32 := 1#32
  let arg10 : BitVec 32 := Scf.iv c0_i32_12 c1_i32_13 k0_t1
  let c4_i32_23 : BitVec 32 := 4#32
  let v29 : BitVec 32 := Scalar.remsi arg10 c4_i32_23
  let v45 : Index := Scalar.indexCast v29
  let c0_27 : Index := 0#32
  let c0_28 : Index := 0#32
  ![v45.toNat, 0, 0]
def k0_mult3 (k0_t1 : Fin k0_t1_loop.trips) : BitVec 32 :=
  let c0_i32_31 : BitVec 32 := 0#32
  let c0_i32_12 : BitVec 32 := 0#32
  let c1_i32_13 : BitVec 32 := 1#32
  let arg10 : BitVec 32 := Scf.iv c0_i32_12 c1_i32_13 k0_t1
  let c128_i32_30 : BitVec 32 := 128#32
  let v50 : BitVec 32 := Scalar.muli arg10 c128_i32_30
  let v51 : BitVec 32 := Scalar.addi c0_i32_31 v50
  v51
def k0_off6 (k0_t1 : Fin k0_t1_loop.trips) : Fin 1 → Nat :=
  let c0_i32_12 : BitVec 32 := 0#32
  let c1_i32_13 : BitVec 32 := 1#32
  let arg10 : BitVec 32 := Scf.iv c0_i32_12 c1_i32_13 k0_t1
  ![arg10.toNat]
def k0_off7 (k0_t1 : Fin k0_t1_loop.trips) : Fin 2 → Nat :=
  let c0_i32_31 : BitVec 32 := 0#32
  let c0_i32_12 : BitVec 32 := 0#32
  let c1_i32_13 : BitVec 32 := 1#32
  let arg10 : BitVec 32 := Scf.iv c0_i32_12 c1_i32_13 k0_t1
  let c128_i32_30 : BitVec 32 := 128#32
  let v50 : BitVec 32 := Scalar.muli arg10 c128_i32_30
  let v51 : BitVec 32 := Scalar.addi c0_i32_31 v50
  let v52 : BitVec 32 := v51
  let c0_i32_36 : BitVec 32 := 0#32
  ![v52.toNat, 0]
def k0_off8 (k0_t1 : Fin k0_t1_loop.trips) : Fin 3 → Nat :=
  let c0_i32_12 : BitVec 32 := 0#32
  let c1_i32_13 : BitVec 32 := 1#32
  let arg10 : BitVec 32 := Scf.iv c0_i32_12 c1_i32_13 k0_t1
  let c4_i32_29 : BitVec 32 := 4#32
  let v49 : BitVec 32 := Scalar.remsi arg10 c4_i32_29
  let c0_i32_37 : BitVec 32 := 0#32
  let c0_i32_38 : BitVec 32 := 0#32
  ![v49.toNat, 0, 0]
def k0_dev3 (d0 : Dev nD) : Nat :=
  let c0_i32_34 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_33 : BitVec 32 := 2#32
  let v54 : BitVec 32 := Scalar.muli v2 c2_i32_33
  let v55 : BitVec 32 := Scalar.addi c0_i32_34 v54
  let c1_i32_32 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v53 : BitVec 32 := Scalar.subi c1_i32_32 v5
  let c1_i32_35 : BitVec 32 := 1#32
  let v56 : BitVec 32 := Scalar.muli v53 c1_i32_35
  let v57 : BitVec 32 := Scalar.addi v55 v56
  v57.toNat
def k0_cond3 (k0_t1 : Fin k0_t1_loop.trips) : BitVec 1 :=
  let c0_i32_12 : BitVec 32 := 0#32
  let c1_i32_13 : BitVec 32 := 1#32
  let arg10 : BitVec 32 := Scf.iv c0_i32_12 c1_i32_13 k0_t1
  let c1_i32_20 : BitVec 32 := 1#32
  let v23 : BitVec 1 := Scalar.cmpi .sge arg10 c1_i32_20
  let v24 : BitVec 32 := Scalar.extui v23
  let c0_i32_21 : BitVec 32 := 0#32
  let v25 : BitVec 1 := Scalar.cmpi .ne v24 c0_i32_21
  v25

def k0_mult4 (k0_t1 : Fin k0_t1_loop.trips) : BitVec 32 :=
  let c0_i32_23 : BitVec 32 := 0#32
  let c0_i32_12 : BitVec 32 := 0#32
  let c1_i32_13 : BitVec 32 := 1#32
  let arg10 : BitVec 32 := Scf.iv c0_i32_12 c1_i32_13 k0_t1
  let c1_i32_22 : BitVec 32 := 1#32
  let v26 : BitVec 32 := Scalar.subi arg10 c1_i32_22
  let c128_i32 : BitVec 32 := 128#32
  let v28 : BitVec 32 := Scalar.muli v26 c128_i32
  let v29 : BitVec 32 := Scalar.addi c0_i32_23 v28
  v29
def k0_off9 (k0_t1 : Fin k0_t1_loop.trips) : Fin 1 → Nat :=
  let c0_i32_12 : BitVec 32 := 0#32
  let c1_i32_13 : BitVec 32 := 1#32
  let arg10 : BitVec 32 := Scf.iv c0_i32_12 c1_i32_13 k0_t1
  let c1_i32_22 : BitVec 32 := 1#32
  let v26 : BitVec 32 := Scalar.subi arg10 c1_i32_22
  ![v26.toNat]
def k0_off10 (k0_t1 : Fin k0_t1_loop.trips) : Fin 2 → Nat :=
  let c0_i32_23 : BitVec 32 := 0#32
  let c0_i32_12 : BitVec 32 := 0#32
  let c1_i32_13 : BitVec 32 := 1#32
  let arg10 : BitVec 32 := Scf.iv c0_i32_12 c1_i32_13 k0_t1
  let c1_i32_22 : BitVec 32 := 1#32
  let v26 : BitVec 32 := Scalar.subi arg10 c1_i32_22
  let c128_i32 : BitVec 32 := 128#32
  let v28 : BitVec 32 := Scalar.muli v26 c128_i32
  let v29 : BitVec 32 := Scalar.addi c0_i32_23 v28
  let v30 : BitVec 32 := v29
  let c0_i32_28 : BitVec 32 := 0#32
  ![v30.toNat, 0]
def k0_off11 (k0_t1 : Fin k0_t1_loop.trips) : Fin 3 → Nat :=
  let c0_i32_12 : BitVec 32 := 0#32
  let c1_i32_13 : BitVec 32 := 1#32
  let arg10 : BitVec 32 := Scf.iv c0_i32_12 c1_i32_13 k0_t1
  let c1_i32_22 : BitVec 32 := 1#32
  let v26 : BitVec 32 := Scalar.subi arg10 c1_i32_22
  let c4_i32 : BitVec 32 := 4#32
  let v27 : BitVec 32 := Scalar.remsi v26 c4_i32
  let c0_i32_29 : BitVec 32 := 0#32
  let c0_i32_30 : BitVec 32 := 0#32
  ![v27.toNat, 0, 0]
def k0_mult5 (k0_t1 : Fin k0_t1_loop.trips) : BitVec 32 :=
  let c0_i32_32 : BitVec 32 := 0#32
  let c0_i32_12 : BitVec 32 := 0#32
  let c1_i32_13 : BitVec 32 := 1#32
  let arg10 : BitVec 32 := Scf.iv c0_i32_12 c1_i32_13 k0_t1
  let c1_i32_22 : BitVec 32 := 1#32
  let v26 : BitVec 32 := Scalar.subi arg10 c1_i32_22
  let c128_i32_31 : BitVec 32 := 128#32
  let v41 : BitVec 32 := Scalar.muli v26 c128_i32_31
  let v42 : BitVec 32 := Scalar.addi c0_i32_32 v41
  v42
def k0_off12 (k0_t1 : Fin k0_t1_loop.trips) : Fin 3 → Nat :=
  let c0_i32_12 : BitVec 32 := 0#32
  let c1_i32_13 : BitVec 32 := 1#32
  let arg10 : BitVec 32 := Scf.iv c0_i32_12 c1_i32_13 k0_t1
  let c1_i32_22 : BitVec 32 := 1#32
  let v26 : BitVec 32 := Scalar.subi arg10 c1_i32_22
  let c4_i32_33 : BitVec 32 := 4#32
  let v44 : BitVec 32 := Scalar.remsi v26 c4_i32_33
  let v45 : Index := Scalar.indexCast v44
  let c0 : Index := 0#32
  let c0_34 : Index := 0#32
  ![v45.toNat, 0, 0]
def k0_off13 (k0_t1 : Fin k0_t1_loop.trips) : Fin 2 → Nat :=
  let c0_i32_32 : BitVec 32 := 0#32
  let c0_i32_12 : BitVec 32 := 0#32
  let c1_i32_13 : BitVec 32 := 1#32
  let arg10 : BitVec 32 := Scf.iv c0_i32_12 c1_i32_13 k0_t1
  let c1_i32_22 : BitVec 32 := 1#32
  let v26 : BitVec 32 := Scalar.subi arg10 c1_i32_22
  let c128_i32_31 : BitVec 32 := 128#32
  let v41 : BitVec 32 := Scalar.muli v26 c128_i32_31
  let v42 : BitVec 32 := Scalar.addi c0_i32_32 v41
  let v43 : BitVec 32 := v42
  let v48 : Index := Scalar.indexCast v43
  let c0_35 : Index := 0#32
  ![v48.toNat, 0]
def k0_mult6 (k0_t1 : Fin k0_t1_loop.trips) : BitVec 32 :=
  let c0_i32_38 : BitVec 32 := 0#32
  let c0_i32_12 : BitVec 32 := 0#32
  let c1_i32_13 : BitVec 32 := 1#32
  let arg10 : BitVec 32 := Scf.iv c0_i32_12 c1_i32_13 k0_t1
  let c1_i32_22 : BitVec 32 := 1#32
  let v26 : BitVec 32 := Scalar.subi arg10 c1_i32_22
  let c128_i32_37 : BitVec 32 := 128#32
  let v55 : BitVec 32 := Scalar.muli v26 c128_i32_37
  let v56 : BitVec 32 := Scalar.addi c0_i32_38 v55
  v56
def k0_mult7 (d0 : Dev nD) (k0_t1 : Fin k0_t1_loop.trips) : BitVec 32 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v6 : BitVec 32 := Scalar.muli v2 c2048_i32
  let c0_i32_12 : BitVec 32 := 0#32
  let c1_i32_13 : BitVec 32 := 1#32
  let arg10 : BitVec 32 := Scf.iv c0_i32_12 c1_i32_13 k0_t1
  let c1_i32_22 : BitVec 32 := 1#32
  let v26 : BitVec 32 := Scalar.subi arg10 c1_i32_22
  let c128_i32_39 : BitVec 32 := 128#32
  let v58 : BitVec 32 := Scalar.muli v26 c128_i32_39
  let v59 : BitVec 32 := Scalar.addi v6 v58
  v59
def k0_off14 (d0 : Dev nD) (k0_t1 : Fin k0_t1_loop.trips) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v6 : BitVec 32 := Scalar.muli v2 c2048_i32
  let c0_i32_12 : BitVec 32 := 0#32
  let c1_i32_13 : BitVec 32 := 1#32
  let arg10 : BitVec 32 := Scf.iv c0_i32_12 c1_i32_13 k0_t1
  let c1_i32_22 : BitVec 32 := 1#32
  let v26 : BitVec 32 := Scalar.subi arg10 c1_i32_22
  let c128_i32_39 : BitVec 32 := 128#32
  let v58 : BitVec 32 := Scalar.muli v26 c128_i32_39
  let v59 : BitVec 32 := Scalar.addi v6 v58
  let v60 : BitVec 32 := v59
  let c0_i32_44 : BitVec 32 := 0#32
  ![v60.toNat, 0]
def k0_dev4 (d0 : Dev nD) : Nat :=
  let c0_i32_42 : BitVec 32 := 0#32
  let c1_i32_40 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v61 : BitVec 32 := Scalar.subi c1_i32_40 v2
  let c2_i32_41 : BitVec 32 := 2#32
  let v62 : BitVec 32 := Scalar.muli v61 c2_i32_41
  let v63 : BitVec 32 := Scalar.addi c0_i32_42 v62
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_43 : BitVec 32 := 1#32
  let v64 : BitVec 32 := Scalar.muli v5 c1_i32_43
  let v65 : BitVec 32 := Scalar.addi v63 v64
  v65.toNat
def k0_mult8 (k0_t1 : Fin k0_t1_loop.trips) : BitVec 32 :=
  let c0_i32_47 : BitVec 32 := 0#32
  let c0_i32_12 : BitVec 32 := 0#32
  let c1_i32_13 : BitVec 32 := 1#32
  let arg10 : BitVec 32 := Scf.iv c0_i32_12 c1_i32_13 k0_t1
  let c1_i32_22 : BitVec 32 := 1#32
  let v26 : BitVec 32 := Scalar.subi arg10 c1_i32_22
  let c128_i32_46 : BitVec 32 := 128#32
  let v72 : BitVec 32 := Scalar.muli v26 c128_i32_46
  let v73 : BitVec 32 := Scalar.addi c0_i32_47 v72
  v73
def k0_mult9 (d0 : Dev nD) (k0_t1 : Fin k0_t1_loop.trips) : BitVec 32 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v6 : BitVec 32 := Scalar.muli v2 c2048_i32
  let c0_i32_12 : BitVec 32 := 0#32
  let c1_i32_13 : BitVec 32 := 1#32
  let arg10 : BitVec 32 := Scf.iv c0_i32_12 c1_i32_13 k0_t1
  let c1_i32_22 : BitVec 32 := 1#32
  let v26 : BitVec 32 := Scalar.subi arg10 c1_i32_22
  let c128_i32_48 : BitVec 32 := 128#32
  let v75 : BitVec 32 := Scalar.muli v26 c128_i32_48
  let v76 : BitVec 32 := Scalar.addi v6 v75
  v76
@[reducible] def k0_t2_loop : Scf.Loop 32 :=
  let c0_i32_15 : BitVec 32 := 0#32
  let c16_i32 : BitVec 32 := 16#32
  let v19 : BitVec 32 := Scalar.addi c0_i32_15 c16_i32
  let c1_i32_16 : BitVec 32 := 1#32
  ⟨c0_i32_15, v19, c1_i32_16⟩
def k0_mult10 (k0_t2 : Fin k0_t2_loop.trips) : BitVec 32 :=
  let c0_i32_18 : BitVec 32 := 0#32
  let c0_i32_15 : BitVec 32 := 0#32
  let c1_i32_16 : BitVec 32 := 1#32
  let arg10 : BitVec 32 := Scf.iv c0_i32_15 c1_i32_16 k0_t2
  let c128_i32 : BitVec 32 := 128#32
  let v20 : BitVec 32 := Scalar.muli arg10 c128_i32
  let v21 : BitVec 32 := Scalar.addi c0_i32_18 v20
  v21
def k0_mult11 (d0 : Dev nD) (k0_t2 : Fin k0_t2_loop.trips) : BitVec 32 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v6 : BitVec 32 := Scalar.muli v2 c2048_i32
  let c0_i32_15 : BitVec 32 := 0#32
  let c1_i32_16 : BitVec 32 := 1#32
  let arg10 : BitVec 32 := Scf.iv c0_i32_15 c1_i32_16 k0_t2
  let c128_i32_19 : BitVec 32 := 128#32
  let v23 : BitVec 32 := Scalar.muli arg10 c128_i32_19
  let v24 : BitVec 32 := Scalar.addi v6 v23
  v24
def k0_off15 (k0_t2 : Fin k0_t2_loop.trips) : Fin 1 → Nat :=
  let c0_i32_15 : BitVec 32 := 0#32
  let c1_i32_16 : BitVec 32 := 1#32
  let arg10 : BitVec 32 := Scf.iv c0_i32_15 c1_i32_16 k0_t2
  ![arg10.toNat]
def k0_off16 (d0 : Dev nD) (k0_t2 : Fin k0_t2_loop.trips) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v6 : BitVec 32 := Scalar.muli v2 c2048_i32
  let c0_i32_15 : BitVec 32 := 0#32
  let c1_i32_16 : BitVec 32 := 1#32
  let arg10 : BitVec 32 := Scf.iv c0_i32_15 c1_i32_16 k0_t2
  let c128_i32_19 : BitVec 32 := 128#32
  let v23 : BitVec 32 := Scalar.muli arg10 c128_i32_19
  let v24 : BitVec 32 := Scalar.addi v6 v23
  let v25 : BitVec 32 := v24
  let c0_i32_24 : BitVec 32 := 0#32
  ![v25.toNat, 0]
def k0_off17 (k0_t2 : Fin k0_t2_loop.trips) : Fin 2 → Nat :=
  let c0_i32_18 : BitVec 32 := 0#32
  let c0_i32_15 : BitVec 32 := 0#32
  let c1_i32_16 : BitVec 32 := 1#32
  let arg10 : BitVec 32 := Scf.iv c0_i32_15 c1_i32_16 k0_t2
  let c128_i32 : BitVec 32 := 128#32
  let v20 : BitVec 32 := Scalar.muli arg10 c128_i32
  let v21 : BitVec 32 := Scalar.addi c0_i32_18 v20
  let v22 : BitVec 32 := v21
  let c0_i32_25 : BitVec 32 := 0#32
  ![v22.toNat, 0]
def k0_mult12 (k0_t2 : Fin k0_t2_loop.trips) : BitVec 32 :=
  let c0_i32_27 : BitVec 32 := 0#32
  let c0_i32_15 : BitVec 32 := 0#32
  let c1_i32_16 : BitVec 32 := 1#32
  let arg10 : BitVec 32 := Scf.iv c0_i32_15 c1_i32_16 k0_t2
  let c128_i32_26 : BitVec 32 := 128#32
  let v35 : BitVec 32 := Scalar.muli arg10 c128_i32_26
  let v36 : BitVec 32 := Scalar.addi c0_i32_27 v35
  v36
def k0_mult13 (d0 : Dev nD) (k0_t2 : Fin k0_t2_loop.trips) : BitVec 32 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v6 : BitVec 32 := Scalar.muli v2 c2048_i32
  let c0_i32_15 : BitVec 32 := 0#32
  let c1_i32_16 : BitVec 32 := 1#32
  let arg10 : BitVec 32 := Scf.iv c0_i32_15 c1_i32_16 k0_t2
  let c128_i32_28 : BitVec 32 := 128#32
  let v38 : BitVec 32 := Scalar.muli arg10 c128_i32_28
  let v39 : BitVec 32 := Scalar.addi v6 v38
  v39
def k0_cond4 (k0_t2 : Fin k0_t2_loop.trips) : BitVec 1 :=
  let c0_i32_15 : BitVec 32 := 0#32
  let c1_i32_16 : BitVec 32 := 1#32
  let arg10 : BitVec 32 := Scf.iv c0_i32_15 c1_i32_16 k0_t2
  let c12_i32 : BitVec 32 := 12#32
  let v49 : BitVec 1 := Scalar.cmpi .sge arg10 c12_i32
  let v50 : BitVec 32 := Scalar.extui v49
  let c0_i32_34 : BitVec 32 := 0#32
  let v51 : BitVec 1 := Scalar.cmpi .ne v50 c0_i32_34
  v51

def k0_mult14 (k0_t2 : Fin k0_t2_loop.trips) : BitVec 32 :=
  let c0_i32_36 : BitVec 32 := 0#32
  let c0_i32_15 : BitVec 32 := 0#32
  let c1_i32_16 : BitVec 32 := 1#32
  let arg10 : BitVec 32 := Scf.iv c0_i32_15 c1_i32_16 k0_t2
  let c128_i32_35 : BitVec 32 := 128#32
  let v53 : BitVec 32 := Scalar.muli arg10 c128_i32_35
  let v54 : BitVec 32 := Scalar.addi c0_i32_36 v53
  v54
def k0_off18 (k0_t2 : Fin k0_t2_loop.trips) : Fin 1 → Nat :=
  let c0_i32_15 : BitVec 32 := 0#32
  let c1_i32_16 : BitVec 32 := 1#32
  let arg10 : BitVec 32 := Scf.iv c0_i32_15 c1_i32_16 k0_t2
  ![arg10.toNat]
def k0_off19 (k0_t2 : Fin k0_t2_loop.trips) : Fin 3 → Nat :=
  let c0_i32_15 : BitVec 32 := 0#32
  let c1_i32_16 : BitVec 32 := 1#32
  let arg10 : BitVec 32 := Scf.iv c0_i32_15 c1_i32_16 k0_t2
  let c4_i32 : BitVec 32 := 4#32
  let v52 : BitVec 32 := Scalar.remsi arg10 c4_i32
  let c0_i32_39 : BitVec 32 := 0#32
  let c0_i32_40 : BitVec 32 := 0#32
  ![v52.toNat, 0, 0]
def k0_off20 (k0_t2 : Fin k0_t2_loop.trips) : Fin 2 → Nat :=
  let c0_i32_36 : BitVec 32 := 0#32
  let c0_i32_15 : BitVec 32 := 0#32
  let c1_i32_16 : BitVec 32 := 1#32
  let arg10 : BitVec 32 := Scf.iv c0_i32_15 c1_i32_16 k0_t2
  let c128_i32_35 : BitVec 32 := 128#32
  let v53 : BitVec 32 := Scalar.muli arg10 c128_i32_35
  let v54 : BitVec 32 := Scalar.addi c0_i32_36 v53
  let v55 : BitVec 32 := v54
  let c0_i32_41 : BitVec 32 := 0#32
  ![v55.toNat, 0]
abbrev stage0_0 : Fin 1 → Memref sig .tc .vmem S2048x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096 : Shape := ⟨1, ![4096]⟩
abbrev S16384x2048 : Shape := ⟨2, ![16384, 2048]⟩
abbrev S_ : Shape := ⟨0, ![]⟩
abbrev S4096x1 : Shape := ⟨2, ![4096, 1]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096, .i32⟩
  | .hbm, ⟨1, _⟩ => ⟨S16384x2048, .f32⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S4096x1, .i32⟩
  | .hbm, ⟨10, _⟩ => ⟨S4096x2048, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Talk.lean ====
/-
  The protocol of the kernel, written down before any step of it is run: who the neighbours of a device are, which pieces of
  which buffers travel, which counters count their arrivals, what each arrival hands over, and what each device owes.

  Device `c` is at (x, y) = (c / 2, c % 2). It adds its part of the rows to the part of `yp c`, and sends the finished rows to
  `xp c`. Per chunk `k` of 128 rows there are five counters on every device:
    0  the send to `yp c` has left the ring slot            (paid by the own send; hands back half of the slot)
    1  the part of `yp c` has arrived in the exchange rows  (paid by `yp c`; hands over those rows)
    2  the send to `xp c` has left the exchange rows        (paid by the own send; hands back half of them)
    3  the finished rows of `xp c` have arrived             (paid by `xp c`; hands over those rows of the result)
    4  the own finished rows are copied out                 (paid by the own copy; those rows of the result, half of the source)
  and one start barrier, signalled once by each neighbour: `yp c` gives its exchange rows, `xp c` the rows of its result that
  `c` will fill.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Tactic
public import Idealize.ShloMosaic.Harness.Basic

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## Neighbours -/

/-- The device in the same row of the mesh. -/
def yp (c : Dev nD) : Dev nD := ⟨2 * (c.val / 2) + 1 - c.val % 2, by revert c; decide⟩
/-- The device in the same column of the mesh. -/
def xp (c : Dev nD) : Dev nD := ⟨c.val % 2 + 2 - 2 * (c.val / 2), by revert c; decide⟩
/-- Which half of the rows a device works on. -/
def hx (c : Dev nD) : Fin 2 := ⟨c.val / 2, by revert c; decide⟩

/-- The row neighbour's row neighbour is the device itself. -/
theorem yp_yp (c : Dev nD) : yp (yp c) = c := by revert c; decide
/-- The column neighbour's column neighbour is the device itself. -/
theorem xp_xp (c : Dev nD) : xp (xp c) = c := by revert c; decide
/-- The two neighbours are different devices. -/
theorem yp_ne_xp (c : Dev nD) : yp c ≠ xp c := by revert c; decide
/-- Each neighbour relation as a bijection of the devices. -/
def ypE : Dev nD ≃ Dev nD := ⟨yp, yp, yp_yp, yp_yp⟩
def xpE : Dev nD ≃ Dev nD := ⟨xp, xp, xp_xp, xp_xp⟩

/-! ## The pieces of the buffers -/

/-- A chunk lies within the exchange rows. -/
theorem comm_inb (k : Fin 16) : ∀ a : Fin 2, (![128 * k.val, 0] : Fin 2 → ℕ) a + S128x2048.size a ≤ S2048x2048.size a :=
  Fin.forall_fin_two.mpr ⟨by show 128 * k.val + 128 ≤ 2048; omega, by show 0 + 2048 ≤ 2048; omega⟩
/-- A chunk of a half lies within the result. -/
theorem out_inb (h : Fin 2) (k : Fin 16) : ∀ a : Fin 2, (![2048 * h.val + 128 * k.val, 0] : Fin 2 → ℕ) a + S128x2048.size a ≤ S4096x2048.size a :=
  Fin.forall_fin_two.mpr ⟨by show 2048 * h.val + 128 * k.val + 128 ≤ 4096; omega, by show 0 + 2048 ≤ 2048; omega⟩
/-- A slot lies within the ring. -/
theorem ring_inb (s : Fin 4) : ∀ a : Fin 3, (![s.val, 0, 0] : Fin 3 → ℕ) a + S1x128x2048.size a ≤ S4x128x2048.size a := by
  intro a
  fin_cases a
  · show s.val + 1 ≤ 4; omega
  · show 0 + 128 ≤ 128; omega
  · show 0 + 2048 ≤ 2048; omega

/-- Chunk `k` of the exchange rows. -/
abbrev commV (k : Fin 16) : Memref sig .tc .vmem S128x2048 .f32 :=
  (Memref.whole cc0_scratch1).slice (Rect.unit (s := S2048x2048) ![128 * k.val, 0] S128x2048.size (comm_inb k)) (fun _ => rfl)
/-- Chunk `k` of half `h` of the result. -/
abbrev outV (h : Fin 2) (k : Fin 16) : Memref sig .tc .hbm S128x2048 .f32 :=
  (Memref.whole main_v19).slice (Rect.unit (s := S4096x2048) ![2048 * h.val + 128 * k.val, 0] S128x2048.size (out_inb h k)) (fun _ => rfl)
/-- Slot `s` of the ring, with its leading unit axis. -/
abbrev ringU (s : Fin 4) : Memref sig .tc .vmem S1x128x2048 .f32 :=
  (Memref.whole cc0_scratch0).slice (Rect.unit (s := S4x128x2048) ![s.val, 0, 0] S1x128x2048.size (ring_inb s)) (fun _ => rfl)
/-- Slot `s` of the ring, as a matrix. -/
abbrev ringV (s : Fin 4) : Memref sig .tc .vmem S128x2048 .f32 := (ringU s).squeeze S128x2048 squeezes_S1x128x2048_S128x2048
/-- The slot chunk `k` goes through. -/
def sl (k : Fin 16) : Fin 4 := ⟨k.val % 4, Nat.mod_lt _ (by decide)⟩

/-- A slot's contents as a matrix. -/
def flat {α : Type} (w : S1x128x2048.Idx → α) : S128x2048.Idx → α := shapeCast S128x2048 w (squeezes_S1x128x2048_S128x2048).numel_eq

/-- A slot covers the same elements with and without its unit axis. -/
theorem ringV_set (s : Fin 4) : (ringV s).view.set = (ringU s).view.set := View.set_reshape _ _
/-- Reading a slot as a matrix is reading it with its unit axis and dropping that axis. -/
theorem ringV_read {Val : EltTy → Type} (s : Fin 4) (f : (ringU s).view.ty.Contents Val) :
    (ringV s).view.read Val f = flat ((ringU s).view.read Val f) := rfl

/-! ## The counters -/

abbrev barS : Sem sig := sig.barrier 0 rfl
/-- Counter `i` of chunk `k`. -/
def semA (i : Fin 5) (k : Fin 16) : DmaSem sig := ⟨2 + 16 * i.val + k.val, by show 2 + 16 * i.val + k.val < 82; omega⟩
/-- Different counters have different numbers. -/
theorem semA_inj {i j : Fin 5} {k l : Fin 16} (h : semA i k = semA j l) : i = j ∧ k = l := by
  have := congrArg Fin.val h
  simp only [semA] at this
  constructor <;> apply Fin.ext <;> omega
abbrev barCell (c : Dev nD) : GSem nD τ sig := ((c : Thread nD τ), .reg barS)
abbrev cell (c : Dev nD) (i : Fin 5) (k : Fin 16) : GSem nD τ sig := ((c : Thread nD τ), .dma (semA i k))

/-- Counters on devices are told apart by the device, the kind and the chunk. -/
theorem cell_inj {c c' : Dev nD} {i j : Fin 5} {k l : Fin 16} (h : cell c i k = cell c' j l) : c = c' ∧ i = j ∧ k = l := by
  have h1 := congrArg (fun g : GSem nD τ sig => g.1.1) h
  have h2 : (SemLoc.dma (semA i k) : SemLoc sig) = .dma (semA j l) := congrArg Prod.snd h
  exact ⟨h1, semA_inj (SemLoc.dma.inj h2)⟩

/-- What a copy of one chunk adds to a counter. -/
abbrev N : ℕ := (commV 0).view.dmaCredit
/-- A copy adds something to its counter. -/
theorem N_pos : 0 < N := View.dmaCredit_pos _ (by decide)

/-! ## Points-tos -/

/-- The ghost state: the pipeline library's and the protocol's, whose duties are named by a truth value. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

section Held

variable {sp : Space} {s : Shape} {e : EltTy}

/-- The elements of a piece on device `c`, at share `q` of contents `f`. -/
abbrev pv (c : Dev nD) (M : Memref sig .tc sp s e) (q : PosShare TreeShare) (f : Buf (Elt F) (M.view.loc (c : Thread nD τ))) : sProp 𝕄 :=
  M.view.loc (c : Thread nD τ) ↦[M.view.set]{q} f
/-- The piece at contents not named. -/
def anyq (c : Dev nD) (M : Memref sig .tc sp s e) (q : PosShare TreeShare) : sProp 𝕄 := iprop(∃ f, pv c M q f)
/-- The piece at contents the piece's own view reads as `w`. -/
def has (c : Dev nD) (M : Memref sig .tc sp s e) (q : PosShare TreeShare) (w : s.Idx → Elt F e) : sProp 𝕄 :=
  iprop(∃ f, pv c M q f ∗ ⌜M.view.read (Elt F) f = w⌝)

instance anyq_storable (c : Dev nD) (M : Memref sig .tc sp s e) (q : PosShare TreeShare) :
    BI.Storable (upEmb : UEmb _ 𝕄) (anyq (F := F) c M q) := by unfold anyq; infer_instance
instance has_storable (c : Dev nD) (M : Memref sig .tc sp s e) (q : PosShare TreeShare) (w : s.Idx → Elt F e) :
    BI.Storable (upEmb : UEmb _ 𝕄) (has c M q w) := by unfold has; infer_instance

/-- Contents that are known may be forgotten. -/
theorem has_any (c : Dev nD) (M : Memref sig .tc sp s e) (q : PosShare TreeShare) (w : s.Idx → Elt F e) :
    has c M q w ⊢ (anyq c M q : sProp 𝕄) := by
  unfold has anyq; iintro ⟨%f, H, -⟩; iexists f; iexact H

/-- The two halves of a piece. -/
abbrev hl : PosShare TreeShare := fullShare.left
abbrev hr : PosShare TreeShare := fullShare.right

/-- A piece held whole is its two halves. -/
theorem pv_halves (c : Dev nD) (M : Memref sig .tc sp s e) (f : Buf (Elt F) (M.view.loc (c : Thread nD τ))) :
    (pv c M fullShare f : sProp 𝕄) ⊣⊢ iprop(pv c M hl f ∗ pv c M hr f) :=
  pointsTo_share (PosShare.mem_left_op_right fullShare)
/-- A piece held whole can be split into halves. -/
theorem pv_split (c : Dev nD) (M : Memref sig .tc sp s e) (f : Buf (Elt F) (M.view.loc (c : Thread nD τ))) :
    (pv c M fullShare f : sProp 𝕄) ⊢ iprop(pv c M hl f ∗ pv c M hr f) := (pv_halves c M f).1
/-- Two halves of the same contents make a piece held whole. -/
theorem pv_join (c : Dev nD) (M : Memref sig .tc sp s e) (f : Buf (Elt F) (M.view.loc (c : Thread nD τ))) :
    iprop(pv c M hl f ∗ pv c M hr f) ⊢ (pv c M fullShare f : sProp 𝕄) := (pv_halves c M f).2

/-- Halves of one piece agree, so together they are the whole piece. -/
theorem has_join (c : Dev nD) (M : Memref sig .tc sp s e) (w : s.Idx → Elt F e) :
    iprop(has c M hl w ∗ anyq c M hr) ⊢ (has c M fullShare w : sProp 𝕄) := by
  unfold has anyq
  iintro ⟨⟨%f, Hl, %hf⟩, ⟨%g, Hr⟩⟩
  icombine Hl Hr gives %hag
  ihave Hr := (Entails.of_eq (show (pv c M hr g : sProp 𝕄) = pv c M hr f from
    pointsTo_congr fun i hi => ((hag i (Finset.mem_inter.mpr ⟨hi, hi⟩)).1).symm)) $$ Hr
  iexists f
  isplitl [Hl Hr]
  · iapply (pv_join c M f)
    isplitl [Hl] <;> iassumption
  · ipureintro; exact hf

/-- Two halves of a piece make it whole, whatever their contents were called. -/
theorem any_join (c : Dev nD) (M : Memref sig .tc sp s e) :
    iprop(anyq c M hl ∗ anyq c M hr) ⊢ (anyq c M fullShare : sProp 𝕄) := by
  unfold anyq
  iintro ⟨⟨%f, Hl⟩, ⟨%g, Hr⟩⟩
  icombine Hl Hr gives %hag
  ihave Hr := (Entails.of_eq (show (pv c M hr g : sProp 𝕄) = pv c M hr f from
    pointsTo_congr fun i hi => ((hag i (Finset.mem_inter.mpr ⟨hi, hi⟩)).1).symm)) $$ Hr
  iexists f
  iapply (pv_join c M f)
  isplitl [Hl] <;> iassumption

end Held

/-! ## The schedule -/

section Schedule

variable (p : Dev nD → Fin 16 → FVec F S1x128x2048 .f32)

/-- Chunk `k` of the finished rows of device `c`: its part and its neighbour's. -/
def sm (c : Dev nD) (k : Fin 16) : FVec F S128x2048 .f32 := k0_pay2 (p c k) (flat (p (yp c) k))

/-- What the arrival on counter `i` of chunk `k` hands device `c`. -/
def dmaPay (c : Dev nD) (i : Fin 5) (k : Fin 16) : sProp 𝕄 :=
  match i with
  | 0 => has c (ringU (sl k)) hr (p c k)
  | 1 => has c (commV k) fullShare (flat (p (yp c) k))
  | 2 => anyq c (commV k) hr
  | 3 => has c (outV (hx (xp c)) k) fullShare (sm p (xp c) k)
  | 4 => iprop(has c (outV (hx c) k) fullShare (sm p c k) ∗ anyq c (commV k) hl)

/-- What a neighbour hands device `c` with its barrier signal. -/
def barPay (c : Dev nD) : Bool → sProp 𝕄
  | false => bigSep Finset.univ fun k : Fin 16 => iprop(anyq (yp c) (commV k) fullShare ∗ reached ER (cell (yp c) 1 k) 0)
  | true => bigSep Finset.univ fun k : Fin 16 => iprop(anyq (xp c) (outV (hx c) k) fullShare ∗ reached ER (cell (xp c) 3 k) 0)

instance dmaPay_storable (c : Dev nD) (i : Fin 5) (k : Fin 16) : BI.Storable (upEmb : UEmb _ 𝕄) (dmaPay p c i k) := by
  unfold dmaPay; split <;> infer_instance
instance barPay_storable (c : Dev nD) (d : Bool) : BI.Storable (upEmb : UEmb _ 𝕄) (barPay (F := F) c d) := by
  unfold barPay; split <;> infer_instance

/-- Which counter of which chunk a counter's number is. -/
def dec (s : DmaSem sig) : Fin 5 × Fin 16 :=
  (⟨(s.val - 2) / 16, by have h : s.val < 82 := s.isLt; omega⟩, ⟨(s.val - 2) % 16, Nat.mod_lt _ (by decide)⟩)
/-- A counter's kind and chunk are read back from its number. -/
theorem dec_semA (i : Fin 5) (k : Fin 16) : dec (semA i k) = (i, k) := by
  unfold dec semA
  apply Prod.ext <;> apply Fin.ext <;> simp only <;> omega

/-- One round on every counter: two signals of one unit on a barrier, one copy on each of the others. -/
def Rd : Rounds.Schedule (GSem nD τ sig) Bool 𝕄 where
  duties g r := if r = 0 ∧ g.1.2 = .tc then
      match g.2 with
      | .reg _ => Finset.univ
      | .dma s => if 2 ≤ s.val then {false} else ∅
    else ∅
  unitless _ := False
  amount g _ _ := match g.2 with | .reg _ => 1 | .dma _ => N
  payload g _ d := match g.2 with | .reg _ => barPay g.1.1 d | .dma s => dmaPay p g.1.1 (dec s).1 (dec s).2
  amount_pos g _ _ _ := by
    show 0 < (match g.2 with | .reg _ => 1 | .dma _ => N)
    split
    · exact Nat.one_pos
    · exact N_pos

instance Rd_payload_storable (g : GSem nD τ sig) (r : ℕ) (d : Bool) : BI.Storable (upEmb : UEmb _ 𝕄) ((Rd p).payload g r d) := by
  show BI.Storable upEmb (match g.2 with | .reg _ => barPay g.1.1 d | .dma s => dmaPay p g.1.1 (dec s).1 (dec s).2)
  split <;> infer_instance

variable (c : Dev nD) (i : Fin 5) (k : Fin 16) (d : Bool)

/-- Both payments of a barrier's round are to be made. -/
theorem duties_bar : (Rd p).duties (barCell c) 0 = Finset.univ := by
  dsimp only [Rd]; exact if_pos ⟨rfl, rfl⟩
/-- A copy's counter takes one payment. -/
theorem duties_cell : (Rd p).duties (cell c i k) 0 = {false} := by
  dsimp only [Rd]
  rw [if_pos ⟨rfl, rfl⟩]
  exact if_pos (by show 2 ≤ 2 + 16 * i.val + k.val; omega)
/-- No counter has a second round. -/
theorem duties_later (g : GSem nD τ sig) : ∀ r, 1 ≤ r → (Rd p).duties g r = ∅ :=
  fun r hr => by dsimp only [Rd]; exact if_neg fun h => by omega
/-- A barrier's payment is one unit. -/
theorem amount_bar : (Rd p).amount (barCell c) 0 d = 1 := rfl
/-- A copy's payment is the size of a chunk. -/
theorem amount_cell : (Rd p).amount (cell c i k) 0 d = N := rfl
/-- A barrier's round comes to two units. -/
theorem expect_bar : (Rd p).expect (barCell c) 0 = 2 := by
  unfold Schedule.expect Schedule.amountOf
  rw [duties_bar]
  simp only [amount_bar]
  decide
/-- A copy's round comes to the size of a chunk. -/
theorem expect_cell : (Rd p).expect (cell c i k) 0 = N := by
  unfold Schedule.expect Schedule.amountOf
  rw [duties_cell, Finset.sum_singleton, amount_cell]
/-- What a barrier's payment hands over. -/
theorem payload_bar : (Rd p).payload (barCell c) 0 d = barPay c d := rfl
/-- What a copy's payment hands over. -/
theorem payload_cell : (Rd p).payload (cell c i k) 0 d = dmaPay p c i k := by
  show dmaPay p c (dec (semA i k)).1 (dec (semA i k)).2 = _
  rw [dec_semA]
/-- A barrier's round hands over what both neighbours bring. -/
theorem rest_bar : bigSep ((Rd p).duties (barCell c) 0 \ ∅) (fun d => (Rd p).payload (barCell c) 0 d)
    = (iprop(barPay c false ∗ barPay c true) : sProp 𝕄) := by
  rw [Finset.sdiff_empty, duties_bar, bigSep_congr (Ψ := barPay c) fun d _ => payload_bar p c d]
  exact bigSep_univ_eq_bigSepL (I := Bool) [false, true] (by decide) (by decide) (barPay (F := F) c)
/-- A copy's round hands over what the copy brings. -/
theorem rest_cell : bigSep ((Rd p).duties (cell c i k) 0 \ ∅) (fun d => (Rd p).payload (cell c i k) 0 d) = (dmaPay p c i k : sProp 𝕄) := by
  rw [Finset.sdiff_empty, duties_cell, bigSep_singleton, payload_cell]

end Schedule

/-! ## What each device owes; the order of the waits -/

/-- The arrivals of parts a device still owes its row neighbour before trip `t`. -/
def OY (c : Dev nD) (t : ℕ) : CellTallies nD τ sig Unit := ∑ k ∈ Finset.univ.filter (fun k : Fin 16 => t ≤ k.val), tallyAt (cell (yp c) 1 k) () N
/-- The arrivals of finished rows it still owes its column neighbour. -/
def OX (c : Dev nD) (t : ℕ) : CellTallies nD τ sig Unit := ∑ k ∈ Finset.univ.filter (fun k : Fin 16 => t ≤ k.val + 1), tallyAt (cell (xp c) 3 k) () N
/-- What it owes at the start: every arrival, and a signal to each neighbour. -/
def O₀ (c : Dev nD) : CellTallies nD τ sig Unit := OY c 0 + OX c 0 + tallyAt (barCell (xp c)) () 1 + tallyAt (barCell (yp c)) () 1

/-- Before trip `k` the device owes its row neighbour one arrival more than after it: that of part `k`. -/
theorem OY_step (c : Dev nD) (k : Fin 16) : OY c k.val = OY c (k.val + 1) + tallyAt (cell (yp c) 1 k) () N := by
  unfold OY
  rw [show Finset.univ.filter (fun l : Fin 16 => k.val ≤ l.val) = insert k (Finset.univ.filter fun l : Fin 16 => k.val + 1 ≤ l.val) from by
    ext l; simp only [Finset.mem_filter, Finset.mem_univ, true_and, Finset.mem_insert, Fin.ext_iff]; omega,
    Finset.sum_insert (by simp), add_comm]
/-- Before trip `k + 1` the device owes its column neighbour one arrival more than after it: that of finished chunk `k`. -/
theorem OX_step (c : Dev nD) (k : Fin 16) : OX c (k.val + 1) = OX c (k.val + 2) + tallyAt (cell (xp c) 3 k) () N := by
  unfold OX
  rw [show Finset.univ.filter (fun l : Fin 16 => k.val + 1 ≤ l.val + 1) = insert k (Finset.univ.filter fun l : Fin 16 => k.val + 2 ≤ l.val + 1) from by
    ext l; simp only [Finset.mem_filter, Finset.mem_univ, true_and, Finset.mem_insert, Fin.ext_iff]; omega,
    Finset.sum_insert (by simp), add_comm]
/-- The first trip pays nothing to the column neighbour. -/
theorem OX_one (c : Dev nD) : OX c 0 = OX c 1 := by
  unfold OX; congr 1
/-- After sixteen trips nothing is owed to the row neighbour. -/
theorem OY_end (c : Dev nD) (t : ℕ) (h : 16 ≤ t) : OY c t = 0 := by
  unfold OY; rw [Finset.filter_false_of_mem (fun l _ => by omega), Finset.sum_empty]
/-- After seventeen trips nothing is owed to the column neighbour. -/
theorem OX_end (c : Dev nD) (t : ℕ) (h : 17 ≤ t) : OX c t = 0 := by
  unfold OX; rw [Finset.filter_false_of_mem (fun l _ => by omega), Finset.sum_empty]

/-- A sum of payments is positive only at one of the counters paid. -/
theorem sum_tally_pos {S : Finset (Fin 16)} {g : Fin 16 → GSem nD τ sig} {g' : GSem nD τ sig} {u : Unit}
    (h : 0 < (∑ k ∈ S, tallyAt (g k) () N : CellTallies nD τ sig Unit) g' u) : ∃ k ∈ S, g' = g k := by
  induction S using Finset.induction_on with
  | empty => exact absurd h (Nat.lt_irrefl 0)
  | insert a S ha ih =>
    rw [Finset.sum_insert ha, Pi.add_apply, Finsupp.add_apply] at h
    rcases Nat.add_pos_iff_pos_or_pos.mp h with h | h
    · rw [tallyAt_apply] at h
      split at h
      · next hg => exact ⟨a, Finset.mem_insert_self _ _, hg.1⟩
      · exact absurd h (Nat.lt_irrefl 0)
    · obtain ⟨k, hk, e⟩ := ih h
      exact ⟨k, Finset.mem_insert_of_mem hk, e⟩

/-- What is owed to the row neighbour are the arrivals of the chunks still to come. -/
theorem OY_pos {c : Dev nD} {t : ℕ} {g : GSem nD τ sig} {u : Unit} (h : 0 < OY c t g u) : ∃ k : Fin 16, t ≤ k.val ∧ g = cell (yp c) 1 k := by
  obtain ⟨k, hk, e⟩ := sum_tally_pos h
  exact ⟨k, (Finset.mem_filter.mp hk).2, e⟩
/-- What is owed to the column neighbour are arrivals of finished rows. -/
theorem OX_pos {c : Dev nD} {t : ℕ} {g : GSem nD τ sig} {u : Unit} (h : 0 < OX c t g u) : ∃ k : Fin 16, g = cell (xp c) 3 k := by
  obtain ⟨k, hk, e⟩ := sum_tally_pos h
  exact ⟨k, e⟩

def L (g : GSem nD τ sig) : Finset Unit := if g.1.2 = .tc then {()} else ∅
/-- Barriers first, then the arrivals of parts in the order of the chunks, then the arrivals of finished rows; a counter only
    its own device pays comes before all of them. -/
def lv (g : GSem nD τ sig) (_ : Unit) : ℕ :=
  match g.2 with
  | .reg _ => 1
  | .dma s => if s.val < 18 then 0 else if s.val < 34 then 2 + (s.val - 18) else if s.val < 50 then 0 else if s.val < 66 then 100 else 0

/-- Only a device's main core has levels. -/
theorem L_of_ne (g : GSem nD τ sig) (h : g.1.2 ≠ .tc) : L g = ∅ := if_neg h
/-- On a main core every counter has one level. -/
theorem L_tc (c : Dev nD) (s : SemLoc sig) : L ((c : Thread nD τ), s) = {()} := if_pos rfl
/-- The barrier's level. -/
theorem lv_bar (c : Dev nD) : lv (barCell c) () = 1 := rfl
/-- The level of a part's arrival: later chunks stand higher. -/
theorem lv_1 (c : Dev nD) (k : Fin 16) : lv (cell c 1 k) () = 2 + k.val := by
  show (if 2 + 16 * 1 + k.val < 18 then 0 else if 2 + 16 * 1 + k.val < 34 then 2 + (2 + 16 * 1 + k.val - 18) else _) = _
  rw [if_neg (by omega), if_pos (by omega)]; omega
/-- The level of a finished chunk's arrival: above all parts. -/
theorem lv_3 (c : Dev nD) (k : Fin 16) : lv (cell c 3 k) () = 100 := by
  show (if 2 + 16 * 3 + k.val < 18 then 0 else if 2 + 16 * 3 + k.val < 34 then _ else if 2 + 16 * 3 + k.val < 50 then 0 else
    if 2 + 16 * 3 + k.val < 66 then 100 else 0) = _
  rw [if_neg (by omega), if_neg (by omega), if_neg (by omega), if_pos (by omega)]
/-- The level of a part's having left: below everything that a neighbour pays. -/
theorem lv_0 (c : Dev nD) (k : Fin 16) : lv (cell c 0 k) () = 0 := by
  show (if 2 + 16 * 0 + k.val < 18 then 0 else _) = _
  rw [if_pos (by omega)]

/-- A counter that comes before level `n + 1` may be waited on while only later parts and finished rows are owed. -/
theorem mayWait_of (c : Dev nD) (s : SemLoc sig) (t u n : ℕ) (hs : lv ((c : Thread nD τ), s) () ≤ n) (hn : n ≤ 1 + t) (hn' : n < 100) :
    (levAts L lv : sProp 𝕄) ⊢ MayWait (c : Thread nD τ) s () (OY c t + OX c u) :=
  MayOwe.of_cut (L := L) (lev := lv) n (fun p hp => by rw [Finset.mem_singleton.mp hp, L_tc]; exact Finset.mem_singleton_self _)
    (fun g u' hg => by
      rw [Pi.add_apply, Finsupp.add_apply] at hg
      rcases Nat.add_pos_iff_pos_or_pos.mp hg with h | h
      · obtain ⟨k, -, rfl⟩ := OY_pos h; rw [L_tc]; exact Finset.mem_singleton_self _
      · obtain ⟨k, rfl⟩ := OX_pos h; rw [L_tc]; exact Finset.mem_singleton_self _)
    (fun p hp => by rw [Finset.mem_singleton.mp hp]; exact hs)
    (fun g u' hg => by
      rw [Pi.add_apply, Finsupp.add_apply] at hg
      rcases Nat.add_pos_iff_pos_or_pos.mp hg with h | h
      · obtain ⟨k, hk, rfl⟩ := OY_pos h; show n < lv (cell (yp c) 1 k) (); rw [lv_1]; omega
      · obtain ⟨k, rfl⟩ := OX_pos h; show n < lv (cell (xp c) 3 k) (); rw [lv_3]; omega)

end Cert.KernelIdeal.Talk
-- ==== Proof.Trip.lean ====
/-
  One device's steps: a wait on a counter, a send, a copy, and the fill of a ring slot and the addition to an exchange chunk,
  each as one step with the pieces it takes and gives back.
-/
module

public import proofs.«01_k».proof.Proof.Talk

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Which trip does what, and where -/

/-- A trip makes a part of its own when it is one of the first sixteen. -/
theorem cond1_iff (t : Fin k0_t1_loop.trips) : k0_cond1 t = 1#1 ↔ t.val < 16 := by revert t; decide
/-- A trip waits for a slot when the ring has gone round. -/
theorem cond2_iff (t : Fin k0_t1_loop.trips) : k0_cond2 t = 1#1 ↔ 4 ≤ t.val := by revert t; decide
/-- A trip finishes the chunk before it unless it is the first. -/
theorem cond3_iff (t : Fin k0_t1_loop.trips) : k0_cond3 t = 1#1 ↔ 1 ≤ t.val := by revert t; decide
/-- The second loop waits for the last four parts to have left. -/
theorem cond4_iff (t : Fin k0_t2_loop.trips) : k0_cond4 t = 1#1 ↔ 12 ≤ t.val := by revert t; decide
/-- The counter of the part that leaves the slot. -/
theorem off1_eq (t : Fin k0_t1_loop.trips) (h : 4 ≤ t.val) : k0_off1 t = ![t.val - 4] := by revert t; decide
/-- The slot that is waited for. -/
theorem off2_eq (t : Fin k0_t1_loop.trips) (h : 4 ≤ t.val) : k0_off2 t = ![t.val % 4, 0, 0] := by revert t; decide
/-- The counter of the chunk being finished. -/
theorem off9_eq (t : Fin k0_t1_loop.trips) (h : 1 ≤ t.val) : k0_off9 t = ![t.val - 1] := by revert t; decide
/-- The rows that the part arrives in. -/
theorem off10_eq (t : Fin k0_t1_loop.trips) (h : 1 ≤ t.val) : k0_off10 t = ![128 * (t.val - 1), 0] := by revert t; decide
/-- The slot of the chunk being finished. -/
theorem off12_eq (t : Fin k0_t1_loop.trips) (h : 1 ≤ t.val) : k0_off12 t = ![(t.val - 1) % 4, 0, 0] := by revert t; decide
/-- The rows that the finished chunk is stored in. -/
theorem off13_eq (t : Fin k0_t1_loop.trips) (h : 1 ≤ t.val) : k0_off13 t = ![128 * (t.val - 1), 0] := by revert t; decide
/-- The rows of the result that the finished chunk goes to. -/
theorem off14_eq (c : Dev nD) (t : Fin k0_t1_loop.trips) (h : 1 ≤ t.val) : k0_off14 c t = ![2048 * (c.val / 2) + 128 * (t.val - 1), 0] := by revert c t; decide
/-- The first signal goes to the row neighbour. -/
theorem dev1_is (c : Dev nD) (h : k0_dev1 c < nD) : (⟨k0_dev1 c, h⟩ : Dev nD) = yp c := by revert c; decide
/-- The second signal goes to the column neighbour. -/
theorem dev2_is (c : Dev nD) (h : k0_dev2 c < nD) : (⟨k0_dev2 c, h⟩ : Dev nD) = xp c := by revert c; decide
/-- A part is sent to the row neighbour. -/
theorem dev3_is (c : Dev nD) (h : k0_dev3 c < nD) : (⟨k0_dev3 c, h⟩ : Dev nD) = yp c := by revert c; decide
/-- A finished chunk is sent to the column neighbour. -/
theorem dev4_is (c : Dev nD) (h : k0_dev4 c < nD) : (⟨k0_dev4 c, h⟩ : Dev nD) = xp c := by revert c; decide

abbrev semAt (A : DmaSems sig S16) (o : Fin 1 → ℕ) (h : ∀ a, o a + S1.size a ≤ S16.size a) : DmaSem sig :=
  ((A.slice (Rect.unit (s := S16) o S1.size h)).squeeze S_ squeezes_S1_S_).sem
/-- Entry `k` of the first array of counters counts part `k` having left. -/
theorem sem0_is {o : Fin 1 → ℕ} {h} (k : Fin 16) (e : o = ![k.val]) : semAt cc0_scratch2 o h = semA 0 k := by subst e; revert k; decide
/-- Entry `k` of the second counts its neighbour's part `k` having arrived. -/
theorem sem1_is {o : Fin 1 → ℕ} {h} (k : Fin 16) (e : o = ![k.val]) : semAt cc0_scratch3 o h = semA 1 k := by subst e; revert k; decide
/-- Entry `k` of the third counts finished chunk `k` having left. -/
theorem sem2_is {o : Fin 1 → ℕ} {h} (k : Fin 16) (e : o = ![k.val]) : semAt cc0_scratch4 o h = semA 2 k := by subst e; revert k; decide
/-- Entry `k` of the fourth counts the neighbour's finished chunk `k` having arrived. -/
theorem sem3_is {o : Fin 1 → ℕ} {h} (k : Fin 16) (e : o = ![k.val]) : semAt cc0_scratch5 o h = semA 3 k := by subst e; revert k; decide
/-- Entry `k` of the fifth counts the local copy of finished chunk `k`. -/
theorem sem4_is {o : Fin 1 → ℕ} {h} (k : Fin 16) (e : o = ![k.val]) : semAt cc0_scratch6 o h = semA 4 k := by subst e; revert k; decide

abbrev 𝒱₀ : Variants := Variants.none

/-! ## Ghost state by short names -/

section Steps

variable (p : Dev nD → Fin 16 → FVec F S1x128x2048 .f32)

/-- Every counter's invariant. -/
def invs (K : GSem nD τ sig → ℕ) : sProp 𝕄 :=
  iprop((bigSep Finset.univ fun c : Dev nD => cellInv ER (Rd p) (K (barCell c)) (barCell c))
    ∗ bigSep Finset.univ fun x : Dev nD × Fin 5 × Fin 16 => cellInv ER (Rd p) (K (cell x.1 x.2.1 x.2.2)) (cell x.1 x.2.1 x.2.2))
instance invs_persistent (K : GSem nD τ sig → ℕ) : BI.Persistent (invs p K) := by unfold invs; infer_instance

/-- The rules of all counters include a barrier's. -/
theorem invs_bar (K : GSem nD τ sig → ℕ) (c : Dev nD) : invs p K ⊢ cellInv ER (Rd p) (K (barCell c)) (barCell c) := by
  unfold invs
  exact (sep_elim_left).trans (bigSep_elim (Finset.mem_univ c) (Φ := fun c : Dev nD => cellInv ER (Rd p) (K (barCell c)) (barCell c)))
/-- The rules of all counters include a copy's. -/
theorem invs_cell (K : GSem nD τ sig → ℕ) (c : Dev nD) (i : Fin 5) (k : Fin 16) :
    invs p K ⊢ cellInv ER (Rd p) (K (cell c i k)) (cell c i k) := by
  unfold invs
  exact (sep_elim_right).trans (bigSep_elim (Finset.mem_univ (c, i, k))
    (Φ := fun x : Dev nD × Fin 5 × Fin 16 => cellInv ER (Rd p) (K (cell x.1 x.2.1 x.2.2)) (cell x.1 x.2.1 x.2.2)))

abbrev tok (c : Dev nD) (i : Fin 5) (k : Fin 16) : sProp 𝕄 := dutyTok ER (cell c i k) 0 false
abbrev rch (c : Dev nD) (i : Fin 5) (k : Fin 16) : sProp 𝕄 := reached ER (cell c i k) 0
abbrev at0 (c : Dev nD) (i : Fin 5) (k : Fin 16) : sProp 𝕄 := atPos ER (cell c i k) 0 ∅ 0
abbrev at1 (c : Dev nD) (i : Fin 5) (k : Fin 16) : sProp 𝕄 := atPos ER (cell c i k) 1 ∅ 0
abbrev cr (c : Dev nD) (i : Fin 5) (k : Fin 16) : sProp 𝕄 := cred (tallyAt (cell c i k) () N)
/-- A device owes `O`, whatever it has waited for. -/
def ow (c : Dev nD) (O : CellTallies nD τ sig Unit) : sProp 𝕄 := iprop(∃ W, owes (c : Thread nD τ) O W)

variable (c : Dev nD) (i : Fin 5) (k : Fin 16) {α : Type} {Q : α → sProp (MT nD τ sig Unit (Elt F) ℕ UU ℕ)}

/-- A wait for the arrival of a chunk takes what the arrival hands over. -/
theorem wait_step (K : GSem nD τ sig → ℕ) {O : CellTallies nD τ sig Unit} {sp sp' : Space} {s' : Shape} {e' : EltTy} {sem : DmaSem sig}
    {src : Memref sig .tc sp' s' e'} {dst : Memref sig .tc sp S128x2048 .f32} {hsrc : src.view.WordExact} {hdst : dst.view.WordExact}
    {kk : PUnit → Prog (TpuEff nD τ sig (Elt F) Λ₀ .tc) α} (hs : sem = semA i k) :
    iprop(invs p K ∗ cr c i k ∗ ow c O ∗ MayWait (c : Thread nD τ) (.dma (semA i k)) () O ∗ at0 c i k)
      ⊢ iprop((ow c O ∗ at1 c i k ∗ dmaPay p c i k -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sem src dst hsrc hdst) kk) Q) := by
  subst hs
  have hN : dst.view.dmaCredit = N := rfl
  unfold ow
  iintro ⟨#Hi, Hc, ⟨%W, Ho⟩, Hm, Ha⟩ Hk
  ihave #Hg := (invs_cell p K c i k) $$ Hi
  iapply (Rounds.wp_wait_rest_token 𝒱₀ ER (Rd p) (c : Thread nD τ) none (κ := K (cell c i k))
    (wpE_waitDma2_eq (src := src) (dst := dst) 𝒱₀ (c : Thread nD τ) none Set.univ) (Set.mem_univ _) () (O := O) (W := W) (R := 0) (m := 0) (T := ∅)
    (show 0 + dst.view.dmaCredit = _ by rw [hN, Nat.zero_add]; exact (expect_cell p c i k).symm)) $$ [Hc Ho Hm Ha]
  · isplitl []; · iexact Hg
    isplitl [Hc]; · ihave Hc := (Entails.of_eq (show cr c i k = (cred (tallyAt (cell c i k) () dst.view.dmaCredit) : sProp 𝕄) by rw [hN])) $$ Hc; iexact Hc
    isplitl [Ho]; · iexact Ho
    isplitl [Hm]; · iexact Hm
    iexact Ha
  iintro ⟨Ho, Ha, -, Hp⟩
  iapply Hk
  isplitl [Ho]; · iexists _; iexact Ho
  isplitl [Ha]; · iexact Ha
  ihave Hp := (Entails.of_eq (rest_cell p c i k)) $$ Hp
  iexact Hp

/-- The send of a part to the row neighbour: the slot's right half travels with it and comes back with the departure. -/
theorem sendY_step (K : GSem nD τ sig → ℕ) (O : CellTallies nD τ sig Unit) {O' : CellTallies nD τ sig Unit} (hO : O' = O + tallyAt (cell (yp c) 1 k) () N)
    {dev : Dev nD} {src : Memref sig .tc .vmem S128x2048 .f32} {dst : Memref sig .tc .vmem S128x2048 .f32} {s₁ s₂ : DmaSem sig}
    {hsrc : src.view.WordExact} {hdst : dst.view.WordExact} {hsc : dst.view.ref.isScScratch = false}
    {hsem : DmaTarget.Typed .vmem (.dma s₂) (.remote (Dev.tc (τ := τ) dev) dst (.dma s₁) hsc)}
    {kk : PUnit → Prog (TpuEff nD τ sig (Elt F) Λ₀ .tc) α}
    (h1 : dev = yp c) (h2 : src = ringV (sl k)) (h3 : dst = commV k) (h4 : s₁ = semA 0 k) (h5 : s₂ = semA 1 k) :
    iprop(invs p K ∗ has c (ringU (sl k)) fullShare (p c k) ∗ anyq (yp c) (commV k) fullShare ∗ ow c O' ∗ tok c 0 k ∗ rch c 0 k
        ∗ tok (yp c) 1 k ∗ rch (yp c) 1 k)
      ⊢ iprop((cr c 0 k ∗ ow c O ∗ has c (ringU (sl k)) hl (p c k) -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma src (.remote (Dev.tc dev) dst (.dma s₁) hsc) (.dma s₂) hsrc hdst hsem) kk) Q) := by
  subst h1 h2 h3 h4 h5
  unfold ow anyq
  rw [show (has c (ringU (sl k)) fullShare (p c k) : sProp 𝕄) = iprop(∃ f, pv c (ringU (sl k)) fullShare f ∗ ⌜(ringU (sl k)).view.read (Elt F) f = p c k⌝) from rfl]
  iintro ⟨#Hi, ⟨%f, Hr, %hf⟩, ⟨%g, Hd⟩, ⟨%W, Ho⟩, Ht0, #Hr0, Ht1, #Hr1⟩ Hk
  ihave #Hg0 := (invs_cell p K c 0 k) $$ Hi
  ihave #Hg1 := (invs_cell p K (yp c) 1 k) $$ Hi
  ihave ⟨Hl, Hr⟩ := (pv_split c (ringU (sl k)) f) $$ Hr
  iapply (Rounds.wp_send_pointsTo 𝒱₀ ER (Rd p) (c : Thread nD τ) none (c' := (yp c : Thread nD τ)) (src := ringV (sl k)) (dst := commV k)
      (sS := .dma (semA 0 k)) (sem := .dma (semA 1 k)) (q := hr) (fs := f) (fd := g) (κ₁ := K (cell c 0 k)) (κ₂ := K (cell (yp c) 1 k))
      (r₁ := 0) (r₂ := 0) (d₁ := false) (d₂ := false)
      (by rw [duties_cell]; exact Finset.mem_singleton_self _) (by rw [duties_cell]; exact Finset.mem_singleton_self _)
      () () N rfl (amount_cell p c 0 k false) (amount_cell p (yp c) 1 k false) O hO (W := W)
      (by
        rw [payload_cell]
        show (pv c (ringV (sl k)) hr f : sProp 𝕄) ⊢ has c (ringU (sl k)) hr (p c k)
        rw [show (pv c (ringV (sl k)) hr f : sProp 𝕄) = pv c (ringU (sl k)) hr f from congrArg (fun S => ((ringU (sl k)).view.loc (c : Thread nD τ) ↦[S]{hr} f : sProp 𝕄)) (ringV_set (sl k))]
        unfold has; iintro H; iexists f; isplitl [H]; · iexact H
        ipureintro; exact hf)
      (by
        rw [payload_cell]
        show _ ⊢ (has (yp c) (commV k) fullShare (flat (p (yp (yp c)) k)) : sProp 𝕄)
        rw [yp_yp]
        unfold has; iintro H; iexists _; isplitl [H]; · iexact H
        ipureintro
        rw [View.read_write_univ, ringV_read, hf])) $$ [Hr Hd Ho Ht0 Ht1]
  · isplitl []; · iexact Hg0
    isplitl []; · iexact Hg1
    isplitl [Hr]
    · ihave Hr := (Entails.of_eq (show (pv c (ringU (sl k)) hr f : sProp 𝕄) = pv c (ringV (sl k)) hr f from
        congrArg (fun S => ((ringU (sl k)).view.loc (c : Thread nD τ) ↦[S]{hr} f : sProp 𝕄)) (ringV_set (sl k)).symm)) $$ Hr
      iexact Hr
    isplitl [Hd]; · iexact Hd
    isplitl [Ho]; · iexact Ho
    isplitl [Ht0]; · iexact Ht0
    isplitl []; · iexact Hr0
    isplitl [Ht1]; · iexact Ht1
    iexact Hr1
  iintro ⟨Hc, Ho⟩
  iapply Hk
  isplitl [Hc]; · iexact Hc
  isplitl [Ho]; · iexists W; iexact Ho
  unfold has; iexists f; isplitl [Hl]; · iexact Hl
  ipureintro; exact hf

/-- The send of finished rows to the column neighbour: half of the exchange rows travels with it. -/
theorem sendX_step (K : GSem nD τ sig → ℕ) (O : CellTallies nD τ sig Unit) {O' : CellTallies nD τ sig Unit} (hO : O' = O + tallyAt (cell (xp c) 3 k) () N)
    {dev : Dev nD} {src : Memref sig .tc .vmem S128x2048 .f32} {dst : Memref sig .tc .hbm S128x2048 .f32} {s₁ s₂ : DmaSem sig}
    {hsrc : src.view.WordExact} {hdst : dst.view.WordExact} {hsc : dst.view.ref.isScScratch = false}
    {hsem : DmaTarget.Typed .vmem (.dma s₂) (.remote (Dev.tc (τ := τ) dev) dst (.dma s₁) hsc)}
    {kk : PUnit → Prog (TpuEff nD τ sig (Elt F) Λ₀ .tc) α}
    (h1 : dev = xp c) (h2 : src = commV k) (h3 : dst = outV (hx c) k) (h4 : s₁ = semA 2 k) (h5 : s₂ = semA 3 k) :
    iprop(invs p K ∗ has c (commV k) fullShare (sm p c k) ∗ anyq (xp c) (outV (hx c) k) fullShare ∗ ow c O' ∗ tok c 2 k ∗ rch c 2 k
        ∗ tok (xp c) 3 k ∗ rch (xp c) 3 k)
      ⊢ iprop((cr c 2 k ∗ ow c O ∗ has c (commV k) hl (sm p c k) -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma src (.remote (Dev.tc dev) dst (.dma s₁) hsc) (.dma s₂) hsrc hdst hsem) kk) Q) := by
  subst h1 h2 h3 h4 h5
  unfold ow anyq
  rw [show (has c (commV k) fullShare (sm p c k) : sProp 𝕄) = iprop(∃ f, pv c (commV k) fullShare f ∗ ⌜(commV k).view.read (Elt F) f = sm p c k⌝) from rfl]
  iintro ⟨#Hi, ⟨%f, Hr, %hf⟩, ⟨%g, Hd⟩, ⟨%W, Ho⟩, Ht0, #Hr0, Ht1, #Hr1⟩ Hk
  ihave #Hg0 := (invs_cell p K c 2 k) $$ Hi
  ihave #Hg1 := (invs_cell p K (xp c) 3 k) $$ Hi
  ihave ⟨Hl, Hr⟩ := (pv_split c (commV k) f) $$ Hr
  iapply (Rounds.wp_send_pointsTo 𝒱₀ ER (Rd p) (c : Thread nD τ) none (c' := (xp c : Thread nD τ)) (src := commV k) (dst := outV (hx c) k)
      (sS := .dma (semA 2 k)) (sem := .dma (semA 3 k)) (q := hr) (fs := f) (fd := g) (κ₁ := K (cell c 2 k)) (κ₂ := K (cell (xp c) 3 k))
      (r₁ := 0) (r₂ := 0) (d₁ := false) (d₂ := false)
      (by rw [duties_cell]; exact Finset.mem_singleton_self _) (by rw [duties_cell]; exact Finset.mem_singleton_self _)
      () () N rfl (amount_cell p c 2 k false) (amount_cell p (xp c) 3 k false) O hO (W := W)
      (by
        rw [payload_cell]
        show (pv c (commV k) hr f : sProp 𝕄) ⊢ anyq c (commV k) hr
        unfold anyq; iintro H; iexists f; iexact H)
      (by
        rw [payload_cell]
        show _ ⊢ (has (xp c) (outV (hx (xp (xp c))) k) fullShare (sm p (xp (xp c)) k) : sProp 𝕄)
        rw [xp_xp]
        unfold has; iintro H; iexists _; isplitl [H]; · iexact H
        ipureintro
        rw [View.read_write_univ, hf])) $$ [Hr Hd Ho Ht0 Ht1]
  · isplitl []; · iexact Hg0
    isplitl []; · iexact Hg1
    isplitl [Hr]; · iexact Hr
    isplitl [Hd]; · iexact Hd
    isplitl [Ho]; · iexact Ho
    isplitl [Ht0]; · iexact Ht0
    isplitl []; · iexact Hr0
    isplitl [Ht1]; · iexact Ht1
    iexact Hr1
  iintro ⟨Hc, Ho⟩
  iapply Hk
  isplitl [Hc]; · iexact Hc
  isplitl [Ho]; · iexists W; iexact Ho
  unfold has; iexists f; isplitl [Hl]; · iexact Hl
  ipureintro; exact hf

/-- The copy of the finished rows into the own result, reading the other half of the exchange rows. -/
theorem copy_step (K : GSem nD τ sig → ℕ)
    {src : Memref sig .tc .vmem S128x2048 .f32} {dst : Memref sig .tc .hbm S128x2048 .f32} {s₂ : DmaSem sig}
    {hsrc : src.view.WordExact} {hdst : dst.view.WordExact}
    {hsem : DmaTarget.Typed (nD := nD) (p := .tc) .vmem (.dma s₂) (.here dst)}
    {kk : PUnit → Prog (TpuEff nD τ sig (Elt F) Λ₀ .tc) α}
    (h2 : src = commV k) (h3 : dst = outV (hx c) k) (h5 : s₂ = semA 4 k) :
    iprop(invs p K ∗ has c (commV k) hl (sm p c k) ∗ anyq c (outV (hx c) k) fullShare ∗ tok c 4 k ∗ rch c 4 k)
      ⊢ iprop((cr c 4 k -∗ wp frame (wpE (defs₀ (F := F)) 𝒱₀ (c : Thread nD τ) none) Set.univ (kk ⟨⟩) Q)
        -∗ wp frame (wpE (defs₀ (F := F)) 𝒱₀ (c : Thread nD τ) none) Set.univ (.op (.enqueueDma src (.here dst) (.dma s₂) hsrc hdst hsem) kk) Q) := by
  subst h2 h3 h5
  unfold anyq
  rw [show (has c (commV k) hl (sm p c k) : sProp 𝕄) = iprop(∃ f, pv c (commV k) hl f ∗ ⌜(commV k).view.read (Elt F) f = sm p c k⌝) from rfl]
  iintro ⟨#Hi, ⟨%f, Hr, %hf⟩, ⟨%g, Hd⟩, Ht, #Hr0⟩ Hk
  ihave #Hg := (invs_cell p K c 4 k) $$ Hi
  iapply (Rounds.wp_copy_pointsTo 𝒱₀ ER (Rd p) (c : Thread nD τ) none (src := commV k) (dst := outV (hx c) k) (sem := .dma (semA 4 k)) (q := hl)
      (fs := f) (fd := g) (r := 0) (d := false) (κ := K (cell c 4 k))
      (by rw [duties_cell]; exact Finset.mem_singleton_self _) () N rfl (amount_cell p c 4 k false)
      (by
        rw [payload_cell]
        show _ ⊢ (iprop(has c (outV (hx c) k) fullShare (sm p c k) ∗ anyq c (commV k) hl) : sProp 𝕄)
        unfold has anyq
        iintro ⟨H, Hs⟩
        isplitl [H]
        · iexists _; isplitl [H]; · iexact H
          ipureintro; rw [View.read_write_univ, hf]
        · iexists f; iexact Hs)) $$ [Hr Hd Ht]
  · isplitl []; · iexact Hg
    isplitl [Hr]; · iexact Hr
    isplitl [Hd]; · iexact Hd
    isplitl [Ht]; · iexact Ht
    iexact Hr0
  iexact Hk

/-! ## Loads and stores of one piece -/

abbrev ringM : Memref sig .tc .vmem S4x128x2048 .f32 := Memref.whole cc0_scratch0
abbrev commM : Memref sig .tc .vmem S2048x2048 .f32 := Memref.whole cc0_scratch1

/-- Loading a slot gives its contents and keeps it. -/
theorem ring_load {o : Fin 3 → ℕ} {h} {hl} (s : Fin 4) (e : o = ![s.val, 0, 0]) {q : PosShare TreeShare} {w : FVec F S1x128x2048 .f32}
    {kk : Vec F S1x128x2048 .f32 → Prog (TpuEff nD τ sig (Elt F) Λ₀ .tc) α} :
    (has c (ringU s) q w : sProp 𝕄)
      ⊢ iprop((has c (ringU s) q w -∗ wp frame (wpE (defs₀ (F := F)) 𝒱₀ (c : Thread nD τ) none) Set.univ (kk w) Q)
        -∗ wp frame (wpE (defs₀ (F := F)) 𝒱₀ (c : Thread nD τ) none) Set.univ
          (.op (.load ringM (Rect.unit (s := S4x128x2048) o S1x128x2048.size h).toLoadRect hl) kk) Q) := by
  subst e
  unfold has
  iintro ⟨%f, H, %hf⟩ Hk
  iapply (wp_load_rect 𝒱₀ (c : Thread nD τ) none Set.univ (m := ringM) (r := Rect.unit (s := S4x128x2048) ![s.val, 0, 0] S1x128x2048.size h) (S := (ringU s).view.set) (q := q) (f := f) subset_rfl) $$ H
  iintro H
  rw [show (ringM.access (Rect.unit (s := S4x128x2048) ![s.val, 0, 0] S1x128x2048.size h)).read (Elt F) f = w from hf]
  iapply Hk
  iexists f; isplitl [H]; · iexact H
  ipureintro; exact hf

/-- Storing into a slot held whole leaves the value stored. -/
theorem ring_store {o : Fin 3 → ℕ} {h} {hx hm} (s : Fin 4) (e : o = ![s.val, 0, 0]) {w : FVec F S1x128x2048 .f32}
    {kk : PUnit → Prog (TpuEff nD τ sig (Elt F) Λ₀ .tc) α} :
    (anyq c (ringU s) fullShare : sProp 𝕄)
      ⊢ iprop((has c (ringU s) fullShare w -∗ wp frame (wpE (defs₀ (F := F)) 𝒱₀ (c : Thread nD τ) none) Set.univ (kk ⟨⟩) Q)
        -∗ wp frame (wpE (defs₀ (F := F)) 𝒱₀ (c : Thread nD τ) none) Set.univ
          (.op (.store ringM (Rect.unit (s := S4x128x2048) o S1x128x2048.size h) w Finset.univ hx hm) kk) Q) := by
  subst e
  unfold has anyq
  iintro ⟨%f, H⟩ Hk
  iapply (wp_store 𝒱₀ (c : Thread nD τ) none Set.univ (m := ringM) (r := Rect.unit (s := S4x128x2048) ![s.val, 0, 0] S1x128x2048.size h) (S := (ringU s).view.set) (f := f) subset_rfl) $$ H
  iintro H
  iapply Hk
  iexists _; isplitl [H]; · iexact H
  ipureintro; exact View.read_write_univ _ _

/-- Loading a chunk of the exchange rows gives its contents and keeps it. -/
theorem comm_load {o : Fin 2 → ℕ} {h} {hl} (e : o = ![128 * k.val, 0]) {q : PosShare TreeShare} {w : FVec F S128x2048 .f32}
    {kk : Vec F S128x2048 .f32 → Prog (TpuEff nD τ sig (Elt F) Λ₀ .tc) α} :
    (has c (commV k) q w : sProp 𝕄)
      ⊢ iprop((has c (commV k) q w -∗ wp frame (wpE (defs₀ (F := F)) 𝒱₀ (c : Thread nD τ) none) Set.univ (kk w) Q)
        -∗ wp frame (wpE (defs₀ (F := F)) 𝒱₀ (c : Thread nD τ) none) Set.univ
          (.op (.load commM (Rect.unit (s := S2048x2048) o S128x2048.size h).toLoadRect hl) kk) Q) := by
  subst e
  unfold has
  iintro ⟨%f, H, %hf⟩ Hk
  iapply (wp_load_rect 𝒱₀ (c : Thread nD τ) none Set.univ (m := commM) (r := Rect.unit (s := S2048x2048) ![128 * k.val, 0] S128x2048.size h) (S := (commV k).view.set) (q := q) (f := f) subset_rfl) $$ H
  iintro H
  rw [show (commM.access (Rect.unit (s := S2048x2048) ![128 * k.val, 0] S128x2048.size h)).read (Elt F) f = w from hf]
  iapply Hk
  iexists f; isplitl [H]; · iexact H
  ipureintro; exact hf

/-- Storing into a chunk held whole leaves the value stored. -/
theorem comm_store {o : Fin 2 → ℕ} {h} {hx hm} (e : o = ![128 * k.val, 0]) {w : FVec F S128x2048 .f32}
    {kk : PUnit → Prog (TpuEff nD τ sig (Elt F) Λ₀ .tc) α} :
    (anyq c (commV k) fullShare : sProp 𝕄)
      ⊢ iprop((has c (commV k) fullShare w -∗ wp frame (wpE (defs₀ (F := F)) 𝒱₀ (c : Thread nD τ) none) Set.univ (kk ⟨⟩) Q)
        -∗ wp frame (wpE (defs₀ (F := F)) 𝒱₀ (c : Thread nD τ) none) Set.univ
          (.op (.store commM (Rect.unit (s := S2048x2048) o S128x2048.size h) w Finset.univ hx hm) kk) Q) := by
  subst e
  unfold has anyq
  iintro ⟨%f, H⟩ Hk
  iapply (wp_store 𝒱₀ (c : Thread nD τ) none Set.univ (m := commM) (r := Rect.unit (s := S2048x2048) ![128 * k.val, 0] S128x2048.size h) (S := (commV k).view.set) (f := f) subset_rfl) $$ H
  iintro H
  iapply Hk
  iexists _; isplitl [H]; · iexact H
  ipureintro; exact View.read_write_univ _ _

end Steps

end Cert.KernelIdeal.Talk
-- ==== Proof.Loop.lean ====
/-
  The two counted loops on one device. Before a trip, every chunk is in one of a few states; a trip moves one chunk on.
-/
module

public import proofs.«01_k».proof.Proof.Trip

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The operands' chunks -/

/-- A chunk of the ids lies within them. -/
theorem ids_inb (k : Fin 16) : ∀ a : Fin 2, (![128 * k.val, 0] : Fin 2 → ℕ) a + S128x1.size a ≤ S2048x1.size a :=
  Fin.forall_fin_two.mpr ⟨by show 128 * k.val + 128 ≤ 2048; omega, by show 0 + 1 ≤ 1; omega⟩
/-- The load of the table takes all of it. -/
theorem tbl_inb : ∀ a : Fin 2, (![0, 0] : Fin 2 → ℕ) a + S8192x2048.size a ≤ S8192x2048.size a :=
  Fin.forall_fin_two.mpr ⟨by show 0 + 8192 ≤ 8192; omega, by show 0 + 2048 ≤ 2048; omega⟩

section Operands

variable (c : Dev nD) (a0 : Memref sig .tc .vmem S2048x1 .i32) (a1 : Memref sig .tc .vmem S8192x2048 .bf16)
  (f0 : Buf (Elt F) (a0.view.loc (c : Thread nD τ))) (f1 : Buf (Elt F) (a1.view.loc (c : Thread nD τ)))

/-- The row numbers of chunk `k`. -/
def idsAt (k : Fin 16) : Vec F S128x1 .i32 := (a0.access (Rect.unit (s := S2048x1) ![128 * k.val, 0] S128x1.size (ids_inb k))).read (Elt F) f0
/-- The shard of the table. -/
def tblAt : Vec F S8192x2048 .bf16 := (a1.access (Rect.unit (s := S8192x2048) ![0, 0] S8192x2048.size tbl_inb)).read (Elt F) f1

/-- Loading a chunk of the ids gives it and keeps the operand. -/
theorem ids_load {α : Type} {Q : α → sProp (MT nD τ sig Unit (Elt F) ℕ UU ℕ)} {o : Fin 2 → ℕ} {h} {hl} (k : Fin 16) (e : o = ![128 * k.val, 0])
    {kk : Vec F S128x1 .i32 → Prog (TpuEff nD τ sig (Elt F) Λ₀ .tc) α} :
    (pv c a0 fullShare f0 : sProp 𝕄)
      ⊢ iprop((pv c a0 fullShare f0 -∗ wp frame (wpE (defs₀ (F := F)) 𝒱₀ (c : Thread nD τ) none) Set.univ (kk (idsAt c a0 f0 k)) Q)
        -∗ wp frame (wpE (defs₀ (F := F)) 𝒱₀ (c : Thread nD τ) none) Set.univ
          (.op (.load a0 (Rect.unit (s := S2048x1) o S128x1.size h).toLoadRect hl) kk) Q) := by
  subst e
  exact wp_load_rect 𝒱₀ (c : Thread nD τ) none Set.univ (m := a0) (r := Rect.unit (s := S2048x1) ![128 * k.val, 0] S128x1.size h)
    (S := a0.view.set) (q := fullShare) (f := f0) (View.set_slice_subset _ _)

/-- Loading the table gives it and keeps the operand. -/
theorem tbl_load {α : Type} {Q : α → sProp (MT nD τ sig Unit (Elt F) ℕ UU ℕ)} {h} {hl}
    {kk : Vec F S8192x2048 .bf16 → Prog (TpuEff nD τ sig (Elt F) Λ₀ .tc) α} :
    (pv c a1 fullShare f1 : sProp 𝕄)
      ⊢ iprop((pv c a1 fullShare f1 -∗ wp frame (wpE (defs₀ (F := F)) 𝒱₀ (c : Thread nD τ) none) Set.univ (kk (tblAt c a1 f1)) Q)
        -∗ wp frame (wpE (defs₀ (F := F)) 𝒱₀ (c : Thread nD τ) none) Set.univ
          (.op (.load a1 (Rect.unit (s := S8192x2048) ![0, 0] S8192x2048.size h).toLoadRect hl) kk) Q) :=
  wp_load_rect 𝒱₀ (c : Thread nD τ) none Set.univ (m := a1) (r := Rect.unit (s := S8192x2048) ![0, 0] S8192x2048.size h)
    (S := a1.view.set) (q := fullShare) (f := f1) (View.set_slice_subset _ _)

end Operands

section Loops

variable (p : Dev nD → Fin 16 → FVec F S1x128x2048 .f32)

/-! ## The states of a chunk -/

/-- The part's way, not begun: both duties of the send, the exchange rows of the neighbour, a slot of the ring if it is the slot's first. -/
def A0 (c : Dev nD) (k : Fin 16) : sProp 𝕄 :=
  iprop(tok c 0 k ∗ rch c 0 k ∗ tok (yp c) 1 k ∗ rch (yp c) 1 k ∗ at0 c 0 k ∗ anyq (yp c) (commV k) fullShare
    ∗ (if k.val < 4 then anyq c (ringU (sl k)) fullShare else iprop(emp)))
/-- On its way: the slot's left half is kept for reading. -/
def A1 (c : Dev nD) (k : Fin 16) : sProp 𝕄 := iprop(cr c 0 k ∗ at0 c 0 k ∗ has c (ringU (sl k)) hl (p c k))
/-- Gone: the slot is free, and kept if it is the slot's last. -/
def A2 (c : Dev nD) (k : Fin 16) : sProp 𝕄 := iprop(at1 c 0 k ∗ (if 12 ≤ k.val then anyq c (ringU (sl k)) fullShare else iprop(emp)))
/-- `s` parts sent, `d` of them gone. -/
def A (c : Dev nD) (s d : ℕ) : sProp 𝕄 :=
  bigSep Finset.univ fun k : Fin 16 => if s ≤ k.val then A0 c k else if d ≤ k.val then A1 p c k else A2 c k

/-- Sending part `k`: it leaves those not begun and may join those under way. -/
theorem A_send (c : Dev nD) (k : Fin 16) (d : ℕ) (h : d ≤ k.val) : A p c k.val d ⊢ iprop(A0 c k ∗ (A1 p c k -∗ A p c (k.val + 1) d)) := by
  unfold A
  refine (bigSep_univ_update (Ψ := fun l : Fin 16 => if k.val + 1 ≤ l.val then A0 c l else if d ≤ l.val then A1 p c l else A2 c l) k fun j hj => ?_).trans ?_
  · have : j.val ≠ k.val := fun e => hj (Fin.ext e)
    by_cases hk : k.val ≤ j.val
    · rw [if_pos hk, if_pos (show k.val + 1 ≤ j.val by omega)]
    · rw [if_neg hk, if_neg (show ¬ k.val + 1 ≤ j.val by omega)]
  · rw [if_pos le_rfl, if_neg (by omega), if_pos h]
/-- Part `k` having left: it leaves those under way and may join those gone. -/
theorem A_gone (c : Dev nD) (k : Fin 16) (s : ℕ) (h : k.val < s) : A p c s k.val ⊢ iprop(A1 p c k ∗ (A2 c k -∗ A p c s (k.val + 1))) := by
  unfold A
  refine (bigSep_univ_update (Ψ := fun l : Fin 16 => if s ≤ l.val then A0 c l else if k.val + 1 ≤ l.val then A1 p c l else A2 c l) k fun j hj => ?_).trans ?_
  · have : j.val ≠ k.val := fun e => hj (Fin.ext e)
    by_cases hk : k.val ≤ j.val
    · rw [if_pos hk, if_pos (show k.val + 1 ≤ j.val by omega)]
    · rw [if_neg hk, if_neg (show ¬ k.val + 1 ≤ j.val by omega)]
  · rw [if_neg (by omega), if_pos le_rfl, if_neg (by omega), if_neg (by omega)]
/-- A part under way can be looked at and put back. -/
theorem A_look (c : Dev nD) (k : Fin 16) (s d : ℕ) (h : d ≤ k.val) (h' : k.val < s) : A p c s d ⊢ iprop(A1 p c k ∗ (A1 p c k -∗ A p c s d)) := by
  unfold A
  refine (bigSep_univ_update (Ψ := fun l : Fin 16 => if s ≤ l.val then A0 c l else if d ≤ l.val then A1 p c l else A2 c l) k fun j hj => rfl).trans ?_
  rw [if_neg (by omega), if_pos h]

/-- The sum's way, not begun. -/
def B0 (c : Dev nD) (k : Fin 16) : sProp 𝕄 :=
  iprop(cr c 1 k ∗ at0 c 1 k ∗ tok c 2 k ∗ rch c 2 k ∗ tok c 4 k ∗ rch c 4 k ∗ tok (xp c) 3 k ∗ rch (xp c) 3 k
    ∗ anyq (xp c) (outV (hx c) k) fullShare ∗ anyq c (outV (hx c) k) fullShare ∗ (cr c 3 k ∗ at0 c 2 k ∗ at0 c 3 k ∗ at0 c 4 k))
/-- On its way to the neighbour and to the own result. -/
def B1 (c : Dev nD) (k : Fin 16) : sProp 𝕄 := iprop(at1 c 1 k ∗ cr c 2 k ∗ cr c 4 k ∗ (cr c 3 k ∗ at0 c 2 k ∗ at0 c 3 k ∗ at0 c 4 k))
/-- Arrived, and the neighbour's too. -/
def B2 (c : Dev nD) (k : Fin 16) : sProp 𝕄 :=
  iprop(at1 c 1 k ∗ at1 c 2 k ∗ at1 c 3 k ∗ at1 c 4 k ∗ anyq c (commV k) fullShare
    ∗ has c (outV (hx c) k) fullShare (sm p c k) ∗ has c (outV (hx (xp c)) k) fullShare (sm p (xp c) k))

/-- Of two states per chunk, the second below `n`. -/
def fam (X Y : Fin 16 → sProp (MT nD τ sig Unit (Elt F) ℕ UU ℕ)) (n : ℕ) : sProp 𝕄 := bigSep Finset.univ fun k => if n ≤ k.val then X k else Y k
/-- Chunk `k` moves from the first state to the second. -/
theorem fam_step (X Y : Fin 16 → sProp (MT nD τ sig Unit (Elt F) ℕ UU ℕ)) (k : Fin 16) :
    fam X Y k.val ⊢ iprop(X k ∗ (Y k -∗ fam X Y (k.val + 1))) := by
  unfold fam
  refine (bigSep_univ_update (Ψ := fun l : Fin 16 => if k.val + 1 ≤ l.val then X l else Y l) k fun j hj => ?_).trans ?_
  · have : j.val ≠ k.val := fun e => hj (Fin.ext e)
    by_cases hk : k.val ≤ j.val
    · rw [if_pos hk, if_pos (show k.val + 1 ≤ j.val by omega)]
    · rw [if_neg hk, if_neg (show ¬ k.val + 1 ≤ j.val by omega)]
  · rw [if_pos le_rfl, if_neg (by omega)]
/-- At the start every chunk is in the first state. -/
theorem fam_zero (X Y : Fin 16 → sProp (MT nD τ sig Unit (Elt F) ℕ UU ℕ)) : fam X Y 0 = bigSep Finset.univ X := by
  unfold fam; exact bigSep_congr fun k _ => if_pos (Nat.zero_le _)
/-- At the end every chunk is in the second. -/
theorem fam_end (X Y : Fin 16 → sProp (MT nD τ sig Unit (Elt F) ℕ UU ℕ)) : fam X Y 16 = bigSep Finset.univ Y := by
  unfold fam; exact bigSep_congr fun k _ => if_neg (by omega)

/-! ## The first loop -/

section First

variable (K : GSem nD τ sig → ℕ) (c : Dev nD)
  (a0 : Memref sig .tc .vmem S2048x1 .i32) (w0 : a0.IsWhole) (a1 : Memref sig .tc .vmem S8192x2048 .bf16) (w1 : a1.IsWhole)
  (w2 : (Memref.whole main_v19 : Memref sig .tc .hbm S4096x2048 .f32).IsWhole) (w3 : ringM.IsWhole) (w4 : commM.IsWhole)
  (f0 : Buf (Elt F) (a0.view.loc (c : Thread nD τ))) (f1 : Buf (Elt F) (a1.view.loc (c : Thread nD τ)))
  (v2 v5 v6 : BitVec 32)

/-- The loads of the operands and the store of the part into its slot, at the end of the first part of a trip. -/
def fill (t : Fin k0_t1_loop.trips) (h : k0_cond1 t = 1#1) : Prog (TpuEff nD τ sig (Elt F) Λ₀ .tc) PUnit := do
  let v34 : Vec F S128x1 .i32 ← Prog.lift (.load a0 (Rect.unit (s := S2048x1) (k0_off4 t) S128x1.size (k0_off4_inb t h)).toLoadRect (View.loadsAt_vmem h_S128x1))
  let v42 : Vec F S8192x2048 .bf16 ← Prog.lift (.load a1 (Rect.unit (s := S8192x2048) ![0, 0] S8192x2048.size inb_S8192x2048_S8192x2048_0_0).toLoadRect (View.loadsAt_vmem h_S8192x2048))
  let _ ← Prog.lift (.load ringM (Rect.unit (s := S4x128x2048) (k0_off5 t) S1x128x2048.size (k0_off5_inb t h)).toLoadRect (View.loadsAt_vmem h_S1x128x2048))
  Prog.lift (.store ringM (Rect.unit (s := S4x128x2048) (k0_off5 t) S1x128x2048.size (k0_off5_inb t h)) (k0_pay1 v34 v42) Finset.univ (View.stores_vmem_bits_univ h_S1x128x2048 rfl) (.inl rfl))
  pure ⟨⟩

/-- The fill leaves the part in the slot. -/
theorem fill_wp (t : Fin k0_t1_loop.trips) (k : Fin 16) (e : t.val = k.val) (h : k0_cond1 t = 1#1)
    (hp : p c k = k0_pay1 (idsAt c a0 f0 k) (tblAt c a1 f1)) {Φ : PUnit → sProp (MT nD τ sig Unit (Elt F) ℕ UU ℕ)} :
    iprop(anyq c (ringU (sl k)) fullShare ∗ pv c a0 fullShare f0 ∗ pv c a1 fullShare f1)
      ⊢ iprop((has c (ringU (sl k)) fullShare (p c k) ∗ pv c a0 fullShare f0 ∗ pv c a1 fullShare f1 -∗ Φ ⟨⟩)
        -∗ wp frame (wpE (defs₀ (F := F)) 𝒱₀ (c : Thread nD τ) none) Set.univ (fill a0 a1 t h) Φ) := by
  unfold fill
  simp only [Prog.bind_lift, Prog.pure_eq_ret]
  have e4 : k0_off4 t = ![128 * k.val, 0] := by rw [k0_off4_eq, e]
  have e5 : k0_off5 t = ![(sl k).val, 0, 0] := by rw [k0_off5_eq, e]; rfl
  iintro ⟨Hr, H0, H1⟩ Hk
  iapply (ids_load c a0 f0 k e4) $$ H0
  iintro H0
  iapply (tbl_load c a1 f1) $$ H1
  iintro H1
  unfold anyq
  icases Hr with ⟨%g, Hr⟩
  ihave Hr := (show (pv c (ringU (sl k)) fullShare g : sProp 𝕄) ⊢ has c (ringU (sl k)) fullShare ((ringU (sl k)).view.read (Elt F) g) by
    unfold has; iintro H; iexists g; isplitl [H]; · iexact H
    ipureintro; rfl) $$ Hr
  iapply (ring_load c (sl k) e5) $$ Hr
  iintro Hr
  ihave Hr := (has_any c _ _ _) $$ Hr
  iapply (ring_store c (sl k) e5) $$ Hr
  iintro Hr
  rw [wp_ret]
  imodintro
  iapply Hk
  isplitl [Hr]
  · ihave Hr := (Entails.of_eq (congrArg (fun w => (has c (ringU (sl k)) fullShare w : sProp 𝕄)) hp.symm)) $$ Hr
    iexact Hr
  isplitl [H0]; · iexact H0
  iexact H1

/-- The first part of a trip, whose slot is free: nothing to wait for. -/
theorem part1_lo (t : Fin k0_t1_loop.trips) (k : Fin 16) (e : t.val = k.val) (h : k0_cond1 t = 1#1) (hlo : t.val < 4) (v : BitVec 32)
    (hp : p c k = k0_pay1 (idsAt c a0 f0 k) (tblAt c a1 f1)) {Φ : PUnit → sProp (MT nD τ sig Unit (Elt F) ℕ UU ℕ)} :
    iprop(anyq c (ringU (sl k)) fullShare ∗ pv c a0 fullShare f0 ∗ pv c a1 fullShare f1)
      ⊢ iprop((has c (ringU (sl k)) fullShare (p c k) ∗ pv c a0 fullShare f0 ∗ pv c a1 fullShare f1 -∗ Φ ⟨⟩)
        -∗ wp frame (wpE (defs₀ (F := F)) 𝒱₀ (c : Thread nD τ) none) Set.univ
          (k0_part1 a0 w0 a1 w1 (Memref.whole main_v19) w2 ringM w3 commM w4 cc0_scratch2 cc0_scratch3 cc0_scratch4 cc0_scratch5 cc0_scratch6 v2 v5 t v h) Φ) := by
  rw [k0_part1_eq_skeleton]
  unfold k0_part1_skel
  rw [dif_neg (fun h2 => by have := (cond2_iff t).mp h2; omega)]
  iintro H Hk
  iapply (fill_wp p c a0 a1 f0 f1 t k e h hp (Φ := Φ)) $$ H
  iexact Hk

/-- The first part of a trip, whose slot is still being read by a send: it waits for that send to have left. -/
theorem part1_hi (t : Fin k0_t1_loop.trips) (k k' : Fin 16) (e : t.val = k.val) (e' : k'.val + 4 = k.val) (h : k0_cond1 t = 1#1) (v : BitVec 32) (s u : ℕ)
    (hp : p c k = k0_pay1 (idsAt c a0 f0 k) (tblAt c a1 f1)) {Φ : PUnit → sProp (MT nD τ sig Unit (Elt F) ℕ UU ℕ)} :
    iprop(levAts L lv ∗ invs p K ∗ A1 p c k' ∗ ow c (OY c s + OX c u) ∗ pv c a0 fullShare f0 ∗ pv c a1 fullShare f1)
      ⊢ iprop((at1 c 0 k' ∗ ow c (OY c s + OX c u) ∗ has c (ringU (sl k)) fullShare (p c k) ∗ pv c a0 fullShare f0 ∗ pv c a1 fullShare f1 -∗ Φ ⟨⟩)
        -∗ wp frame (wpE (defs₀ (F := F)) 𝒱₀ (c : Thread nD τ) none) Set.univ
          (k0_part1 a0 w0 a1 w1 (Memref.whole main_v19) w2 ringM w3 commM w4 cc0_scratch2 cc0_scratch3 cc0_scratch4 cc0_scratch5 cc0_scratch6 v2 v5 t v h) Φ) := by
  rw [k0_part1_eq_skeleton]
  unfold k0_part1_skel
  rw [dif_pos ((cond2_iff t).mpr (by omega))]
  have es : sl k' = sl k := Fin.ext (by show k'.val % 4 = k.val % 4; omega)
  unfold A1
  iintro ⟨#Hlv, #Hi, ⟨Hc, Ha, Hl⟩, Ho, H0, H1⟩ Hk
  iapply (wait_step p c 0 k' K (O := OY c s + OX c u) (sem0_is k' (by rw [off1_eq t (by omega)]; congr 1; omega))) $$ [Hc Ho Ha]
  · isplitl []; · iexact Hi
    isplitl [Hc]; · iexact Hc
    isplitl [Ho]; · iexact Ho
    isplitl []
    · iapply (mayWait_of c (.dma (semA 0 k')) s u 0 (le_of_eq (lv_0 c k')) (by omega) (by omega))
      iexact Hlv
    iexact Ha
  iintro ⟨Ho, Ha, Hr⟩
  ihave Hr := (Entails.of_eq (show (dmaPay p c 0 k' : sProp 𝕄) = has c (ringU (sl k')) hr (p c k') from rfl)) $$ Hr
  ihave Hr := (has_any c _ _ _) $$ Hr
  ihave Hf := (has_join c (ringU (sl k')) (p c k')) $$ [Hl Hr]
  · isplitl [Hl] <;> iassumption
  ihave Hf := (has_any c _ _ _) $$ Hf
  ihave Hf := (Entails.of_eq (congrArg (fun x => (anyq c (ringU x) fullShare : sProp 𝕄)) es)) $$ Hf
  iapply (fill_wp p c a0 a1 f0 f1 t k e h hp (Φ := Φ)) $$ [Hf H0 H1]
  · isplitl [Hf]; · iexact Hf
    isplitl [H0] <;> iassumption
  iintro ⟨Hr, H0, H1⟩
  iapply Hk
  isplitl [Ha]; · iexact Ha
  isplitl [Ho]; · iexact Ho
  isplitl [Hr]; · iexact Hr
  isplitl [H0] <;> iassumption

/-- The second half of a trip: the sum of the last chunk and its two transfers, if there is a last chunk. -/
def tail (t : Fin k0_t1_loop.trips) (v : BitVec 32) : Prog (TpuEff nD τ sig (Elt F) Λ₀ .tc) Unit := do
  if h : k0_cond3 t = 1#1 then do
    let ⟨_, _⟩ : Σ' (_ : BitVec 32), BitVec 32 ← k0_part2 a0 w0 a1 w1 (Memref.whole main_v19) w2 ringM w3 commM w4 cc0_scratch2 cc0_scratch3 cc0_scratch4 cc0_scratch5 cc0_scratch6 v2 v5 v6 t v h
    let o : Memref sig .tc .hbm S128x2048 .f32 := (Memref.whole main_v19).slice (Rect.unit (s := S4096x2048) (k0_off14 c t) S128x2048.size (k0_off14_inb c t h)) (fun _ => rfl)
    let x : Memref sig .tc .vmem S128x2048 .f32 := commM.slice (Rect.unit (s := S2048x2048) (k0_off10 t) S128x2048.size (k0_off10_inb t h)) (fun _ => rfl)
    Prog.lift (.enqueueDma x (.remote (Dev.tc (⟨k0_dev4 c, k0_dev4_lt c t h⟩ : Dev nD)) o (.dma (semAt cc0_scratch4 (k0_off9 t) (k0_off9_inb t h))))
      (.dma (semAt cc0_scratch5 (k0_off9 t) (k0_off9_inb t h))) (View.wordExact_bits rfl) (View.wordExact_bits rfl) ⟨⟨rfl, Or.inl rfl⟩, trivial⟩)
    Prog.lift (.enqueueDma x (.here o) (.dma (semAt cc0_scratch6 (k0_off9 t) (k0_off9_inb t h))) (View.wordExact_bits rfl) (View.wordExact_bits rfl) ⟨Or.inl rfl, trivial⟩)
    pure ⟨⟩
  else do
    pure ⟨⟩
  pure ⟨⟩

/-- The second half of a trip moves the last chunk from its sum not begun to its sum on its way. -/
theorem tail_wp (t : Fin k0_t1_loop.trips) (v : BitVec 32) (s a d : ℕ) (hs : t.val ≤ s) (ha : t.val ≤ a) (hd : d + 1 ≤ t.val ∨ t.val = 0)
    {Φ : Unit → sProp (MT nD τ sig Unit (Elt F) ℕ UU ℕ)} :
    iprop(levAts L lv ∗ invs p K ∗ ow c (OY c s + OX c t.val) ∗ A p c a d ∗ fam (B0 c) (B1 c) (t.val - 1))
      ⊢ iprop((ow c (OY c s + OX c (t.val + 1)) ∗ A p c a d ∗ fam (B0 c) (B1 c) t.val -∗ Φ ⟨⟩)
        -∗ wp frame (wpE (defs₀ (F := F)) 𝒱₀ (c : Thread nD τ) none) Set.univ (tail c a0 w0 a1 w1 w2 w3 w4 v2 v5 v6 t v) Φ) := by
  have htr : t.val < 17 := t.isLt
  unfold tail
  by_cases h : k0_cond3 t = 1#1
  · rw [dif_pos h, k0_part2_eq_skeleton]
    have h1 := (cond3_iff t).mp h
    obtain ⟨k, ek⟩ : ∃ k : Fin 16, k.val + 1 = t.val := ⟨⟨t.val - 1, by omega⟩, by show t.val - 1 + 1 = _; omega⟩
    have ek' : t.val - 1 = k.val := by omega
    have e9 : k0_off9 t = ![k.val] := by rw [off9_eq t h1, ek']
    have e10 : k0_off10 t = ![128 * k.val, 0] := by rw [off10_eq t h1, ek']
    have e12 : k0_off12 t = ![(sl k).val, 0, 0] := by rw [off12_eq t h1, ek']; rfl
    have e13 : k0_off13 t = ![128 * k.val, 0] := by rw [off13_eq t h1, ek']
    have e14 : k0_off14 c t = ![2048 * (hx c).val + 128 * k.val, 0] := by rw [off14_eq c t h1, ek']; rfl
    unfold k0_part2_skel
    simp only [Prog.bind_lift, Prog.bind_op, Prog.bind_ret, Prog.pure_eq_ret, ek']
    iintro ⟨#Hlv, #Hi, Ho, HA, HB⟩ Hk
    ihave ⟨HB, HBk⟩ := (fam_step (B0 c) (B1 c) k) $$ HB
    ihave ⟨HA1, HAk⟩ := (A_look p c k a d (by omega) (by omega)) $$ HA
    unfold A1 B0
    icases HA1 with ⟨Hc0, Ha0, Hl⟩
    icases HB with ⟨Hc1, Ha1, Ht2, Hr2, Ht4, Hr4, Ht3, Hr3, HoX, HoC, Hrest⟩
    iapply (wait_step p c 1 k K (O := OY c s + OX c t.val) (sem1_is k e9)) $$ [Hc1 Ho Ha1]
    · isplitl []; · iexact Hi
      isplitl [Hc1]; · iexact Hc1
      isplitl [Ho]; · iexact Ho
      isplitl []
      · iapply (mayWait_of c (.dma (semA 1 k)) s t.val (2 + k.val) (le_of_eq (lv_1 c k)) (by omega) (by omega))
        iexact Hlv
      iexact Ha1
    iintro ⟨Ho, Ha1, Hx⟩
    ihave Hx := (Entails.of_eq (show (dmaPay p c 1 k : sProp 𝕄) = has c (commV k) fullShare (flat (p (yp c) k)) from rfl)) $$ Hx
    iapply (ring_load c (sl k) e12) $$ Hl
    iintro Hl
    iapply (comm_load c k e13) $$ Hx
    iintro Hx
    iapply (comm_load c k e13) $$ Hx
    iintro Hx
    ihave Hx := (has_any c _ _ _) $$ Hx
    iapply (comm_store c k e13) $$ Hx
    iintro Hx
    iapply (sendX_step p c k K (OY c s + OX c (t.val + 1)) (O' := OY c s + OX c t.val) (by rw [← ek, OX_step c k, add_assoc]) (dev4_is c _)
      (Memref.slice_unit_congr _ e10 _ _ _ _) (Memref.slice_unit_congr _ e14 _ _ _ _) (sem2_is k e9) (sem3_is k e9)) $$ [Hx HoX Ho Ht2 Hr2 Ht3 Hr3]
    · isplitl []; · iexact Hi
      isplitl [Hx]; · iexact Hx
      isplitl [HoX]; · iexact HoX
      isplitl [Ho]; · iexact Ho
      isplitl [Ht2]; · iexact Ht2
      isplitl [Hr2]; · iexact Hr2
      isplitl [Ht3] <;> iassumption
    iintro ⟨Hc2, Ho, Hx⟩
    iapply (copy_step p c k K (Memref.slice_unit_congr _ e10 _ _ _ _) (Memref.slice_unit_congr _ e14 _ _ _ _) (sem4_is k e9)) $$ [Hx HoC Ht4 Hr4]
    · isplitl []; · iexact Hi
      isplitl [Hx]; · iexact Hx
      isplitl [HoC]; · iexact HoC
      isplitl [Ht4] <;> iassumption
    iintro Hc4
    rw [wp_ret]
    imodintro
    iapply Hk
    isplitl [Ho]; · iexact Ho
    isplitl [HAk Hc0 Ha0 Hl]
    · iapply HAk
      isplitl [Hc0]; · iexact Hc0
      isplitl [Ha0]; · iexact Ha0
      iexact Hl
    rw [← ek]
    iapply HBk
    unfold B1
    isplitl [Ha1]; · iexact Ha1
    isplitl [Hc2]; · iexact Hc2
    isplitl [Hc4]; · iexact Hc4
    iexact Hrest
  · rw [dif_neg h]
    have h0 : t.val = 0 := by
      by_contra hne
      exact h ((cond3_iff t).mpr (by omega))
    rw [h0]
    simp only [Prog.bind_ret, Prog.pure_eq_ret]
    iintro ⟨-, -, Ho, HA, HB⟩ Hk
    rw [wp_ret, OX_one]
    imodintro
    iapply Hk
    isplitl [Ho]; · iexact Ho
    isplitl [HA] <;> iassumption

/-- Before trip `t` of the first loop. -/
def Inv1 (t : ℕ) : sProp 𝕄 :=
  iprop(levAts L lv ∗ invs p K ∗ ow c (OY c t + OX c t) ∗ A p c (min t 16) (min t 16 - 4) ∗ fam (B0 c) (B1 c) (t - 1)
    ∗ pv c a0 fullShare f0 ∗ pv c a1 fullShare f1)

/-- One trip of the first loop. -/
theorem trip1 (hp : ∀ k, p c k = k0_pay1 (idsAt c a0 f0 k) (tblAt c a1 f1)) (t : Fin k0_t1_loop.trips) (x : Unit) :
    Inv1 p K c a0 a1 f0 f1 t.val ⊢ wp frame (wpE (defs₀ (F := F)) 𝒱₀ (c : Thread nD τ) none) Set.univ
      (k0_t1_body a0 w0 a1 w1 (Memref.whole main_v19) w2 ringM w3 commM w4 cc0_scratch2 cc0_scratch3 cc0_scratch4 cc0_scratch5 cc0_scratch6 c v2 v5 v6 t x)
      (fun _ => Inv1 p K c a0 a1 f0 f1 (t.val + 1)) := by
  have htr : t.val < 17 := t.isLt
  unfold Inv1 k0_t1_body
  by_cases h : k0_cond1 t = 1#1
  · have h16 := (cond1_iff t).mp h
    obtain ⟨k, ek⟩ : ∃ k : Fin 16, t.val = k.val := ⟨⟨t.val, h16⟩, rfl⟩
    have e6 : k0_off6 t = ![k.val] := by rw [k0_off6_eq, ek]
    have e7 : k0_off7 t = ![128 * k.val, 0] := by rw [k0_off7_eq, ek]
    have e8 : k0_off8 t = ![(sl k).val, 0, 0] := by rw [k0_off8_eq, ek]; rfl
    rw [dif_pos h, wp_bind, show min t.val 16 = k.val by omega, show min (t.val + 1) 16 = k.val + 1 by omega]
    iintro ⟨#Hlv, #Hi, Ho, HA, HB, H0, H1⟩
    -- the slot becomes free, if it was not
    by_cases hlo : t.val < 4
    · rw [show k.val - 4 = 0 by omega, show k.val + 1 - 4 = 0 by omega]
      ihave ⟨HA, HAk⟩ := (A_send p c k 0 (by omega)) $$ HA
      unfold A0
      icases HA with ⟨Ht0, Hr0, Ht1, Hr1, Ha0, Hd, Hs⟩
      ihave Hs := (Entails.of_eq (if_pos (show k.val < 4 by omega))) $$ Hs
      iapply (part1_lo p c a0 w0 a1 w1 w2 w3 w4 f0 f1 v2 v5 t k ek h hlo _ (hp k)) $$ [Hs H0 H1]
      · isplitl [Hs]; · iexact Hs
        isplitl [H0] <;> iassumption
      iintro ⟨Hs, H0, H1⟩
      iapply (sendY_step p c k K (OY c (k.val + 1) + OX c t.val) (O' := OY c t.val + OX c t.val) (by rw [ek, OY_step c k, add_right_comm]) (dev3_is c _)
        (congrArg (fun m : Memref sig .tc .vmem S1x128x2048 .f32 => m.squeeze S128x2048 squeezes_S1x128x2048_S128x2048) (Memref.slice_unit_congr _ e8 _ _ _ _))
        (Memref.slice_unit_congr _ e7 _ _ _ _) (sem0_is k e6) (sem1_is k e6)) $$ [Hs Hd Ho Ht0 Hr0 Ht1 Hr1]
      · isplitl []; · iexact Hi
        isplitl [Hs]; · iexact Hs
        isplitl [Hd]; · iexact Hd
        isplitl [Ho]; · iexact Ho
        isplitl [Ht0]; · iexact Ht0
        isplitl [Hr0]; · iexact Hr0
        isplitl [Ht1] <;> iassumption
      iintro ⟨Hc0, Ho, Hs⟩
      ihave HA := HAk $$ [Hc0 Ha0 Hs]
      · unfold A1
        isplitl [Hc0]; · iexact Hc0
        isplitl [Ha0] <;> iassumption
      iapply (tail_wp p K c a0 w0 a1 w1 w2 w3 w4 v2 v5 v6 t _ (k.val + 1) (k.val + 1) 0 (by omega) (by omega) (by omega)) $$ [Ho HA HB]
      · isplitl []; · iexact Hlv
        isplitl []; · iexact Hi
        isplitl [Ho]; · iexact Ho
        isplitl [HA] <;> iassumption
      iintro ⟨Ho, HA, HB⟩
      isplitl []; · iexact Hlv
      isplitl []; · iexact Hi
      rw [ek]
      isplitl [Ho]; · iexact Ho
      isplitl [HA]; · iexact HA
      isplitl [HB]; · iexact HB
      isplitl [H0] <;> iassumption
    · obtain ⟨k', ek'⟩ : ∃ k' : Fin 16, k'.val + 4 = k.val := ⟨⟨t.val - 4, by omega⟩, by show t.val - 4 + 4 = _; omega⟩
      rw [show k.val - 4 = k'.val by omega, show k.val + 1 - 4 = k'.val + 1 by omega]
      ihave ⟨HA, HAk⟩ := (A_gone p c k' k.val (by omega)) $$ HA
      iapply (part1_hi p K c a0 w0 a1 w1 w2 w3 w4 f0 f1 v2 v5 t k k' ek ek' h _ t.val t.val (hp k)) $$ [HA Ho H0 H1]
      · isplitl []; · iexact Hlv
        isplitl []; · iexact Hi
        isplitl [HA]; · iexact HA
        isplitl [Ho]; · iexact Ho
        isplitl [H0] <;> iassumption
      iintro ⟨Ha, Ho, Hs, H0, H1⟩
      ihave HA := HAk $$ [Ha]
      · unfold A2
        isplitl [Ha]; · iexact Ha
        rw [if_neg (by omega)]
        iempintro
      ihave ⟨HA, HAk⟩ := (A_send p c k (k'.val + 1) (by omega)) $$ HA
      unfold A0
      icases HA with ⟨Ht0, Hr0, Ht1, Hr1, Ha0, Hd, -⟩
      iapply (sendY_step p c k K (OY c (k.val + 1) + OX c t.val) (O' := OY c t.val + OX c t.val) (by rw [ek, OY_step c k, add_right_comm]) (dev3_is c _)
        (congrArg (fun m : Memref sig .tc .vmem S1x128x2048 .f32 => m.squeeze S128x2048 squeezes_S1x128x2048_S128x2048) (Memref.slice_unit_congr _ e8 _ _ _ _))
        (Memref.slice_unit_congr _ e7 _ _ _ _) (sem0_is k e6) (sem1_is k e6)) $$ [Hs Hd Ho Ht0 Hr0 Ht1 Hr1]
      · isplitl []; · iexact Hi
        isplitl [Hs]; · iexact Hs
        isplitl [Hd]; · iexact Hd
        isplitl [Ho]; · iexact Ho
        isplitl [Ht0]; · iexact Ht0
        isplitl [Hr0]; · iexact Hr0
        isplitl [Ht1] <;> iassumption
      iintro ⟨Hc0, Ho, Hs⟩
      ihave HA := HAk $$ [Hc0 Ha0 Hs]
      · unfold A1
        isplitl [Hc0]; · iexact Hc0
        isplitl [Ha0] <;> iassumption
      iapply (tail_wp p K c a0 w0 a1 w1 w2 w3 w4 v2 v5 v6 t _ (k.val + 1) (k.val + 1) (k'.val + 1) (by omega) (by omega) (by omega)) $$ [Ho HA HB]
      · isplitl []; · iexact Hlv
        isplitl []; · iexact Hi
        isplitl [Ho]; · iexact Ho
        isplitl [HA] <;> iassumption
      iintro ⟨Ho, HA, HB⟩
      isplitl []; · iexact Hlv
      isplitl []; · iexact Hi
      rw [ek]
      isplitl [Ho]; · iexact Ho
      isplitl [HA]; · iexact HA
      isplitl [HB]; · iexact HB
      isplitl [H0] <;> iassumption
  · have h16 : t.val = 16 := by
      by_contra hne
      exact h ((cond1_iff t).mpr (by omega))
    rw [dif_neg h, show min t.val 16 = 16 by omega, show min (t.val + 1) 16 = 16 by omega]
    iintro ⟨#Hlv, #Hi, Ho, HA, HB, H0, H1⟩
    iapply (tail_wp p K c a0 w0 a1 w1 w2 w3 w4 v2 v5 v6 t _ t.val 16 (16 - 4) le_rfl (by omega) (by omega)) $$ [Ho HA HB]
    · isplitl []; · iexact Hlv
      isplitl []; · iexact Hi
      isplitl [Ho]; · iexact Ho
      isplitl [HA] <;> iassumption
    iintro ⟨Ho, HA, HB⟩
    isplitl []; · iexact Hlv
    isplitl []; · iexact Hi
    rw [OY_end c (t.val + 1) (by omega), OY_end c t.val (by omega)]
    isplitl [Ho]; · iexact Ho
    isplitl [HA]; · iexact HA
    isplitl [HB]; · iexact HB
    isplitl [H0] <;> iassumption

end First

/-! ## The second loop -/

section Second

variable (K : GSem nD τ sig → ℕ) (c : Dev nD)
  (a0 : Memref sig .tc .vmem S2048x1 .i32) (w0 : a0.IsWhole) (a1 : Memref sig .tc .vmem S8192x2048 .bf16) (w1 : a1.IsWhole)
  (w2 : (Memref.whole main_v19 : Memref sig .tc .hbm S4096x2048 .f32).IsWhole) (w3 : ringM.IsWhole) (w4 : commM.IsWhole)

/-- Before trip `j` of the second loop. -/
def Inv2 (j : ℕ) : sProp 𝕄 := iprop(invs p K ∗ ow c 0 ∗ A p c 16 (max 12 j) ∗ fam (B1 c) (B2 p c) j)

/-- One trip of the second loop: the chunk's four transfers have arrived. -/
theorem trip2 (t : Fin k0_t2_loop.trips) (x : Unit) :
    Inv2 p K c t.val ⊢ wp frame (wpE (defs₀ (F := F)) 𝒱₀ (c : Thread nD τ) none) Set.univ
      (k0_t2_body a0 w0 a1 w1 (Memref.whole main_v19) w2 ringM w3 commM w4 cc0_scratch2 cc0_scratch3 cc0_scratch4 cc0_scratch5 cc0_scratch6 c t x)
      (fun _ => Inv2 p K c (t.val + 1)) := by
  have htr : t.val < 16 := t.isLt
  obtain ⟨k, ek⟩ : ∃ k : Fin 16, t.val = k.val := ⟨⟨t.val, htr⟩, rfl⟩
  have e15 : k0_off15 t = ![k.val] := by rw [k0_off15_eq, ek]
  unfold Inv2 k0_t2_body
  simp only [Prog.bind_lift]
  rw [ek]
  iintro ⟨#Hi, Ho, HA, HB⟩
  ihave ⟨HB, HBk⟩ := (fam_step (B1 c) (B2 p c) k) $$ HB
  unfold B1
  icases HB with ⟨Ha1, Hc2, Hc4, Hc3, Ha2, Ha3, Ha4⟩
  iapply (wait_step p c 3 k K (O := 0) (sem3_is k e15)) $$ [Hc3 Ho Ha3]
  · isplitl []; · iexact Hi
    isplitl [Hc3]; · iexact Hc3
    isplitl [Ho]; · iexact Ho
    isplitl []; · rw [MayWait_zero]; iempintro
    iexact Ha3
  iintro ⟨Ho, Ha3, Hx3⟩
  iapply (wait_step p c 4 k K (O := 0) (sem4_is k e15)) $$ [Hc4 Ho Ha4]
  · isplitl []; · iexact Hi
    isplitl [Hc4]; · iexact Hc4
    isplitl [Ho]; · iexact Ho
    isplitl []; · rw [MayWait_zero]; iempintro
    iexact Ha4
  iintro ⟨Ho, Ha4, Hx4⟩
  iapply (wait_step p c 2 k K (O := 0) (sem2_is k e15)) $$ [Hc2 Ho Ha2]
  · isplitl []; · iexact Hi
    isplitl [Hc2]; · iexact Hc2
    isplitl [Ho]; · iexact Ho
    isplitl []; · rw [MayWait_zero]; iempintro
    iexact Ha2
  iintro ⟨Ho, Ha2, Hx2⟩
  ihave Hx2 := (Entails.of_eq (show (dmaPay p c 2 k : sProp 𝕄) = anyq c (commV k) hr from rfl)) $$ Hx2
  ihave Hx3 := (Entails.of_eq (show (dmaPay p c 3 k : sProp 𝕄) = has c (outV (hx (xp c)) k) fullShare (sm p (xp c) k) from rfl)) $$ Hx3
  ihave Hx4 := (Entails.of_eq (show (dmaPay p c 4 k : sProp 𝕄) = iprop(has c (outV (hx c) k) fullShare (sm p c k) ∗ anyq c (commV k) hl) from rfl)) $$ Hx4
  icases Hx4 with ⟨Hx4, Hl⟩
  ihave Hx := (any_join c (commV k)) $$ [Hl Hx2]
  · isplitl [Hl] <;> iassumption
  ihave HB := HBk $$ [Ha1 Ha2 Ha3 Ha4 Hx Hx3 Hx4]
  · unfold B2
    isplitl [Ha1]; · iexact Ha1
    isplitl [Ha2]; · iexact Ha2
    isplitl [Ha3]; · iexact Ha3
    isplitl [Ha4]; · iexact Ha4
    isplitl [Hx]; · iexact Hx
    isplitl [Hx4] <;> iassumption
  by_cases h : k0_cond4 t = 1#1
  · have h12 := (cond4_iff t).mp h
    rw [dif_pos h, show max 12 k.val = k.val by omega, show max 12 (k.val + 1) = k.val + 1 by omega]
    ihave ⟨HA, HAk⟩ := (A_gone p c k 16 (by omega)) $$ HA
    unfold A1
    icases HA with ⟨Hc0, Ha0, Hl⟩
    iapply (wait_step p c 0 k K (O := 0) (sem0_is k (by rw [k0_off18_eq, ek]))) $$ [Hc0 Ho Ha0]
    · isplitl []; · iexact Hi
      isplitl [Hc0]; · iexact Hc0
      isplitl [Ho]; · iexact Ho
      isplitl []; · rw [MayWait_zero]; iempintro
      iexact Ha0
    iintro ⟨Ho, Ha0, Hr⟩
    ihave Hr := (Entails.of_eq (show (dmaPay p c 0 k : sProp 𝕄) = has c (ringU (sl k)) hr (p c k) from rfl)) $$ Hr
    ihave Hr := (has_any c _ _ _) $$ Hr
    ihave Hf := (has_join c (ringU (sl k)) (p c k)) $$ [Hl Hr]
    · isplitl [Hl] <;> iassumption
    ihave Hf := (has_any c _ _ _) $$ Hf
    ihave HA := HAk $$ [Ha0 Hf]
    · unfold A2
      isplitl [Ha0]; · iexact Ha0
      rw [if_pos (by omega)]
      iexact Hf
    simp only [Prog.bind_ret, Prog.pure_eq_ret]
    rw [wp_ret]
    imodintro
    isplitl []; · iexact Hi
    isplitl [Ho]; · iexact Ho
    isplitl [HA] <;> iassumption
  · have h12 : ¬ 12 ≤ t.val := fun h' => h ((cond4_iff t).mpr h')
    rw [dif_neg h, show max 12 k.val = 12 by omega, show max 12 (k.val + 1) = 12 by omega]
    simp only [Prog.bind_ret, Prog.pure_eq_ret]
    rw [wp_ret]
    imodintro
    isplitl []; · iexact Hi
    isplitl [Ho]; · iexact Ho
    isplitl [HA] <;> iassumption

end Second

end Loops

end Cert.KernelIdeal.Talk
-- ==== Proof.Pieces.lean ====
/-
  A buffer held whole is its pieces held one by one, and back: the exchange rows in sixteen chunks, the ring in four slots,
  the result in two halves of sixteen chunks.
-/
module

public import proofs.«01_k».proof.Proof.Loop
public import Idealize.ShloMosaic.Lib.Ring

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Which elements a piece has -/

/-- An element belongs to the chunk that its row, divided by 128, names. -/
theorem comm_mem (k : Fin 16) (i : S2048x2048.Idx) : i ∈ (commV k).view.set ↔ (i 0).val / 128 = k.val := by
  show i ∈ ((View.whole cc0_scratch1).slice (Rect.unit (s := S2048x2048) ![128 * k.val, 0] S128x2048.size (comm_inb k))).set ↔ _
  rw [View.set_slice_whole, Rect.mem_set_unit]
  have h1 : (i 1).val < 2048 := (i 1).isLt
  constructor
  · intro h
    have h0 : 128 * k.val ≤ (i 0).val ∧ (i 0).val < 128 * k.val + 128 := h 0
    omega
  · intro h
    exact Fin.forall_fin_two.mpr ⟨show 128 * k.val ≤ (i 0).val ∧ (i 0).val < 128 * k.val + 128 by omega, show 0 ≤ (i 1).val ∧ (i 1).val < 0 + 2048 by omega⟩
/-- An element of the result belongs to the half and the chunk that its row names. -/
theorem out_mem (x : Fin 2 × Fin 16) (i : S4096x2048.Idx) :
    i ∈ (outV x.1 x.2).view.set ↔ (i 0).val / 2048 = x.1.val ∧ (i 0).val % 2048 / 128 = x.2.val := by
  show i ∈ ((View.whole main_v19).slice (Rect.unit (s := S4096x2048) ![2048 * x.1.val + 128 * x.2.val, 0] S128x2048.size (out_inb x.1 x.2))).set ↔ _
  rw [View.set_slice_whole, Rect.mem_set_unit]
  have h1 : (i 1).val < 2048 := (i 1).isLt
  have h2 := x.2.isLt
  constructor
  · intro h
    have h0 : 2048 * x.1.val + 128 * x.2.val ≤ (i 0).val ∧ (i 0).val < 2048 * x.1.val + 128 * x.2.val + 128 := h 0
    omega
  · intro h
    exact Fin.forall_fin_two.mpr ⟨show 2048 * x.1.val + 128 * x.2.val ≤ (i 0).val ∧ (i 0).val < 2048 * x.1.val + 128 * x.2.val + 128 by omega,
      show 0 ≤ (i 1).val ∧ (i 1).val < 0 + 2048 by omega⟩
/-- An element of the ring belongs to the slot of its first coordinate. -/
theorem ring_mem (s : Fin 4) (i : S4x128x2048.Idx) : i ∈ (ringU s).view.set ↔ (i 0).val = s.val := by
  show i ∈ ((View.whole cc0_scratch0).slice (Rect.unit (s := S4x128x2048) ![s.val, 0, 0] S1x128x2048.size (ring_inb s))).set ↔ _
  rw [View.set_slice_whole, Rect.mem_set_unit]
  have h1 : (i 1).val < 128 := (i 1).isLt
  have h2 : (i 2).val < 2048 := (i 2).isLt
  constructor
  · intro h
    have h0 : s.val ≤ (i 0).val ∧ (i 0).val < s.val + 1 := h 0
    omega
  · intro h a
    fin_cases a
    · show s.val ≤ (i 0).val ∧ (i 0).val < s.val + 1; omega
    · show 0 ≤ (i 1).val ∧ (i 1).val < 0 + 128; omega
    · show 0 ≤ (i 2).val ∧ (i 2).val < 0 + 2048; omega

/-- Pieces told apart by a name each element has are disjoint and cover. -/
theorem disj_of_name {I B : Type} [DecidableEq I] {S : B → Finset I} (n : I → B → Prop) (hn : ∀ i b b', n i b → n i b' → b = b')
    (h : ∀ b i, i ∈ S b ↔ n i b) : ∀ b b', b ≠ b' → Disjoint (S b) (S b') := fun b b' hb =>
  Finset.disjoint_left.mpr fun i hi hi' => hb (hn i b b' ((h b i).mp hi) ((h b' i).mp hi'))
/-- Pieces told apart by a name that every element has cover everything. -/
theorem cover_of_name {I B : Type} [DecidableEq I] [Fintype I] [Fintype B] {S : B → Finset I} (n : I → B → Prop) (hn : ∀ i, ∃ b, n i b)
    (h : ∀ b i, i ∈ S b ↔ n i b) : Finset.univ.biUnion S = Finset.univ := by
  ext i
  obtain ⟨b, hb⟩ := hn i
  simp only [Finset.mem_biUnion, Finset.mem_univ, true_and, iff_true]
  exact ⟨b, (h b i).mpr hb⟩

/-- The elements of a chunk of the exchange rows, of a slot of the ring, of a chunk of the result. -/
abbrev commS (k : Fin 16) : Finset S2048x2048.Idx := (commV k).view.set
abbrev ringS (s : Fin 4) : Finset S4x128x2048.Idx := (ringU s).view.set
abbrev outS (x : Fin 2 × Fin 16) : Finset S4096x2048.Idx := (outV x.1 x.2).view.set

/-- Different chunks of the exchange rows share no element. -/
theorem comm_disj : ∀ k l : Fin 16, k ≠ l → Disjoint (commS k) (commS l) :=
  disj_of_name (I := S2048x2048.Idx) (fun i k => (i 0).val / 128 = k.val) (fun i k l h h' => Fin.ext (h.symm.trans h')) comm_mem
/-- The chunks make up the exchange rows. -/
theorem comm_cover : Finset.univ.biUnion commS = Finset.univ :=
  cover_of_name (I := S2048x2048.Idx) (fun i k => (i 0).val / 128 = k.val)
    (fun i => ⟨⟨(i 0).val / 128, by have h : (i 0).val < 2048 := (i 0).isLt; omega⟩, rfl⟩) comm_mem
/-- Different slots share no element. -/
theorem ring_disj : ∀ k l : Fin 4, k ≠ l → Disjoint (ringS k) (ringS l) :=
  disj_of_name (I := S4x128x2048.Idx) (fun i k => (i 0).val = k.val) (fun i k l h h' => Fin.ext (h.symm.trans h')) ring_mem
/-- The slots make up the ring. -/
theorem ring_cover : Finset.univ.biUnion ringS = Finset.univ :=
  cover_of_name (I := S4x128x2048.Idx) (fun i k => (i 0).val = k.val) (fun i => ⟨i 0, rfl⟩) ring_mem
/-- Different chunks of the result share no element. -/
theorem out_disj : ∀ x y : Fin 2 × Fin 16, x ≠ y → Disjoint (outS x) (outS y) :=
  disj_of_name (I := S4096x2048.Idx) (fun i x => (i 0).val / 2048 = x.1.val ∧ (i 0).val % 2048 / 128 = x.2.val)
    (fun i x y h h' => Prod.ext (Fin.ext (h.1.symm.trans h'.1)) (Fin.ext (h.2.symm.trans h'.2))) out_mem
/-- The chunks of both halves make up the result. -/
theorem out_cover : Finset.univ.biUnion outS = Finset.univ :=
  cover_of_name (I := S4096x2048.Idx) (fun i x => (i 0).val / 2048 = x.1.val ∧ (i 0).val % 2048 / 128 = x.2.val)
    (fun i => ⟨(⟨(i 0).val / 2048, by have h : (i 0).val < 4096 := (i 0).isLt; omega⟩, ⟨(i 0).val % 2048 / 128, by omega⟩), rfl, rfl⟩) out_mem

/-! ## Splitting and gluing -/

section Glue

variable (c : Dev nD)

abbrev pt (b : Ref sig .tc) (f : Buf (Elt F) ((c : Thread nD τ).loc b)) : sProp 𝕄 := ((c : Thread nD τ).loc b) ↦{fullShare} f

/-- The contents of a piece may be forgotten. -/
theorem pv_any {sp : Space} {s : Shape} {e : EltTy} (M : Memref sig .tc sp s e) (q : PosShare TreeShare) (f : Buf (Elt F) (M.view.loc (c : Thread nD τ))) :
    (pv c M q f : sProp 𝕄) ⊢ anyq c M q := by unfold anyq; iintro H; iexists f; iexact H
/-- A device's half and its column neighbour's are the two halves. -/
theorem halves_univ : (Finset.univ : Finset (Fin 2)) = [hx c, hx (xp c)].toFinset := by revert c; decide
/-- They are different. -/
theorem halves_nodup : [hx c, hx (xp c)].Nodup := by revert c; decide

/-- The exchange rows, held whole, are cut into chunks. -/
theorem comm_cut (f : Buf (Elt F) ((c : Thread nD τ).loc cc0_scratch1)) :
    (pt c cc0_scratch1 f : sProp 𝕄) ⊢ bigSep Finset.univ fun k : Fin 16 => anyq c (commV k) fullShare := by
  refine (Entails.of_eq (Ring.pointsTo_blocks (ℓ := (c : Thread nD τ).loc cc0_scratch1) commS comm_disj comm_cover f)).trans ?_
  exact bigSep_mono fun k _ => pv_any c (commV k) fullShare f
/-- The chunks are put together again. -/
theorem comm_glue : (bigSep Finset.univ fun k : Fin 16 => (anyq c (commV k) fullShare : sProp 𝕄))
    ⊢ iprop(∃ f, pt c cc0_scratch1 f) :=
  Ring.pointsTo_blocks_join_exists (ℓ := (c : Thread nD τ).loc cc0_scratch1) commS comm_disj comm_cover
    (Classical.choice inferInstance)
/-- The ring, held whole, is cut into slots. -/
theorem ring_cut (f : Buf (Elt F) ((c : Thread nD τ).loc cc0_scratch0)) :
    (pt c cc0_scratch0 f : sProp 𝕄) ⊢ bigSep Finset.univ fun s : Fin 4 => anyq c (ringU s) fullShare := by
  refine (Entails.of_eq (Ring.pointsTo_blocks (ℓ := (c : Thread nD τ).loc cc0_scratch0) ringS ring_disj ring_cover f)).trans ?_
  exact bigSep_mono fun k _ => pv_any c (ringU k) fullShare f
/-- The slots are put together again. -/
theorem ring_glue : (bigSep Finset.univ fun s : Fin 4 => (anyq c (ringU s) fullShare : sProp 𝕄))
    ⊢ iprop(∃ f, pt c cc0_scratch0 f) :=
  Ring.pointsTo_blocks_join_exists (ℓ := (c : Thread nD τ).loc cc0_scratch0) ringS ring_disj ring_cover
    (Classical.choice inferInstance)

/-- Four chunks in a row, by the slot each goes through. -/
def four (o : Fin 4) : Fin 4 ↪ Fin 16 := ⟨fun s => ⟨4 * o.val + s.val, by omega⟩, fun s s' h => Fin.ext (by
  have h' : 4 * o.val + s.val = 4 * o.val + s'.val := congrArg Fin.val h
  omega)⟩
/-- A chunk of group `o` and place `s` in its group goes through slot `s`. -/
theorem four_sl (o s : Fin 4) : sl (four o s) = s := Fin.ext (show (4 * o.val + s.val) % 4 = s.val by omega)
/-- The four slots are four chunks' in a row. -/
theorem slots_eq (b : Fin 16 → Prop) [DecidablePred b] (o : Fin 4) (hb : Finset.univ.filter b = Finset.univ.map (four o))
    (Φ : Fin 4 → sProp (MT nD τ sig Unit (Elt F) ℕ UU ℕ)) :
    (bigSep Finset.univ fun k : Fin 16 => if b k then Φ (sl k) else iprop(emp)) = bigSep Finset.univ Φ := by
  refine (bigSep_filter Finset.univ b (fun k => Φ (sl k))).symm.trans ?_
  rw [hb, bigSep_map]
  exact bigSep_congr fun s _ => congrArg Φ (four_sl o s)

/-- The result, held whole, is cut into the chunks that the device writes and those that its neighbour writes. -/
theorem out_cut (f : Buf (Elt F) ((c : Thread nD τ).loc main_v19)) :
    (pt c main_v19 f : sProp 𝕄) ⊢ iprop((bigSep Finset.univ fun k : Fin 16 => anyq c (outV (hx c) k) fullShare)
      ∗ bigSep Finset.univ fun k : Fin 16 => anyq c (outV (hx (xp c)) k) fullShare) := by
  refine (Entails.of_eq (Ring.pointsTo_blocks (ℓ := (c : Thread nD τ).loc main_v19) outS out_disj out_cover f)).trans ?_
  refine (bigSep_mono (Ψ := fun x : Fin 2 × Fin 16 => anyq c (outV x.1 x.2) fullShare) fun x _ => pv_any c (outV x.1 x.2) fullShare f).trans ?_
  rw [bigSep_univ_prod]
  exact Entails.of_eq (bigSep_univ_eq_bigSepL [hx c, hx (xp c)] (halves_univ c) (halves_nodup c) _)

/-- The device whose finished rows half `h` of the result on device `c` is. -/
def half (c : Dev nD) (h : Fin 2) : Dev nD := if h = hx c then c else xp c
/-- A device's own half comes from itself. -/
theorem half_self : half c (hx c) = c := if_pos rfl
/-- The other half comes from the column neighbour. -/
theorem half_other : half c (hx (xp c)) = xp c := if_neg (by revert c; decide)

variable (p : Dev nD → Fin 16 → FVec F S1x128x2048 .f32)

/-- A place in a chunk. -/
def place (r : Fin 128) (d : Fin 2048) : S128x2048.Idx := fun | ⟨0, _⟩ => r | ⟨1, _⟩ => d
/-- A place of a chunk is named by its two coordinates. -/
theorem place_eq (j : S128x2048.Idx) (r : Fin 128) (d : Fin 2048) (hr : r.val = (j 0).val) (hd : d.val = (j 1).val) : place r d = j :=
  funext (Fin.forall_fin_two.mpr ⟨Fin.ext hr, Fin.ext hd⟩)
/-- Row `r`, column `d` of the whole result on device `c`. -/
def resultAt (c : Dev nD) (r : Fin 4096) (d : Fin 2048) : Elt F .f32 :=
  sm p (half c ⟨r.val / 2048, by omega⟩) ⟨r.val % 2048 / 128, by omega⟩ (place ⟨r.val % 128, by omega⟩ d)
/-- The whole result on device `c`. -/
def result (c : Dev nD) : Buf (Elt F) ((c : Thread nD τ).loc main_v19) := fun i : S4096x2048.Idx => resultAt p c (i 0) (i 1)

/-- The result at a row of a chunk is that chunk, of the device the half comes from, at the place in it. -/
theorem resultAt_eq (r : Fin 4096) (d : Fin 2048) (x : Fin 2 × Fin 16) (j : S128x2048.Idx)
    (hr : r.val = 2048 * x.1.val + 128 * x.2.val + (j 0).val) (hd : d.val = (j 1).val) : resultAt p c r d = sm p (half c x.1) x.2 j := by
  have h1 := x.1.isLt
  have h2 := x.2.isLt
  have hj : (j 0).val < 128 := (j 0).isLt
  unfold resultAt
  rw [show (⟨r.val / 2048, by omega⟩ : Fin 2) = x.1 from Fin.ext (by simp only; omega),
    show (⟨r.val % 2048 / 128, by omega⟩ : Fin 16) = x.2 from Fin.ext (by simp only; omega)]
  exact congrArg _ (place_eq j _ _ (by simp only; omega) hd)

/-- The same through the piece of the result that the chunk is. -/
theorem result_at (x : Fin 2 × Fin 16) (j : S128x2048.Idx) :
    result p c ((outV x.1 x.2).view.emb j) = sm p (half c x.1) x.2 j := by
  refine resultAt_eq c p _ _ x j ?_ ?_
  · show ((Rect.unit (s := S4096x2048) ![2048 * x.1.val + 128 * x.2.val, 0] S128x2048.size (out_inb x.1 x.2)).emb j 0 : Nat) = _
    rw [Rect.emb_apply]; show _ + 1 * (j 0).val = _; rw [Nat.one_mul]; rfl
  · show ((Rect.unit (s := S4096x2048) ![2048 * x.1.val + 128 * x.2.val, 0] S128x2048.size (out_inb x.1 x.2)).emb j 1 : Nat) = _
    rw [Rect.emb_apply]; show 0 + 1 * (j 1).val = _; omega

/-- A piece holding its finished chunk holds what the whole result has there. -/
theorem out_piece (x : Fin 2 × Fin 16) :
    (has c (outV x.1 x.2) fullShare (sm p (half c x.1) x.2) : sProp 𝕄) ⊢ pv c (outV x.1 x.2) fullShare (result p c) := by
  unfold has
  iintro ⟨%f, H, %hf⟩
  iapply (Entails.of_eq (pointsTo_congr (ℓ := (c : Thread nD τ).loc main_v19) (q := fullShare) (f := f) (g := result p c) (I := (outV x.1 x.2).view.set) fun i hi => by
    obtain ⟨j, -, rfl⟩ := Finset.mem_map.mp hi
    rw [result_at]
    exact congrFun hf j))
  iexact H

/-- The finished chunks of both halves make the whole result. -/
theorem out_glue : iprop((bigSep Finset.univ fun k : Fin 16 => has c (outV (hx c) k) fullShare (sm p c k))
      ∗ bigSep Finset.univ fun k : Fin 16 => has c (outV (hx (xp c)) k) fullShare (sm p (xp c) k))
    ⊢ (pt c main_v19 (result p c) : sProp 𝕄) := by
  refine .trans (.trans (Entails.of_eq ?_) (bigSep_mono (s := Finset.univ) (Φ := fun x : Fin 2 × Fin 16 => has c (outV x.1 x.2) fullShare (sm p (half c x.1) x.2)) fun x _ => out_piece c p x))
    (Entails.of_eq (Ring.pointsTo_blocks (ℓ := (c : Thread nD τ).loc main_v19) outS out_disj out_cover (result p c)).symm)
  rw [bigSep_univ_prod]
  refine .trans ?_ (bigSep_univ_eq_bigSepL [hx c, hx (xp c)] (halves_univ c) (halves_nodup c) _).symm
  show _ = iprop((bigSep Finset.univ fun k : Fin 16 => has c (outV (hx c) k) fullShare (sm p (half c (hx c)) k))
    ∗ bigSep Finset.univ fun k : Fin 16 => has c (outV (hx (xp c)) k) fullShare (sm p (half c (hx (xp c))) k))
  rw [half_self, half_other]

end Glue

end Cert.KernelIdeal.Talk
-- ==== Proof.Body.lean ====
/-
  The whole kernel on one device: the start barrier, the two loops, and the counters put back to rest.
-/
module

public import proofs.«01_k».proof.Proof.Pieces

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- A family over the counters, chunk by chunk. -/
theorem by_chunk (Φ : Fin 5 × Fin 16 → sProp (MT nD τ sig Unit (Elt F) ℕ UU ℕ)) :
    bigSep Finset.univ Φ = bigSep Finset.univ fun k : Fin 16 => iprop(Φ (0, k) ∗ Φ (1, k) ∗ Φ (2, k) ∗ Φ (3, k) ∗ Φ (4, k)) := by
  rw [bigSep_univ_equiv (Equiv.prodComm (Fin 16) (Fin 5)) Φ, bigSep_univ_prod]
  exact bigSep_congr fun k _ => bigSep_univ_eq_bigSepL [(0 : Fin 5), 1, 2, 3, 4] (by decide) (by decide) _

section Whole

variable (p : Dev nD → Fin 16 → FVec F S1x128x2048 .f32) (K : GSem nD τ sig → ℕ) (c : Dev nD)

/-! ## The barrier -/

section Barrier

variable {α : Type} {Q : α → sProp (MT nD τ sig Unit (Elt F) ℕ UU ℕ)}

/-- A signal to a neighbour's barrier pays one unit of what is owed and hands over its payload. -/
theorem signal_step (g : Dev nD) (d : Bool) (O : CellTallies nD τ sig Unit) {O' : CellTallies nD τ sig Unit} (hO : O' = O + tallyAt (barCell g) () 1)
    {dev : Dev nD} (h : dev = g) {kk : PUnit → Prog (TpuEff nD τ sig (Elt F) Λ₀ .tc) α} :
    iprop(invs p K ∗ ow c O' ∗ dutyTok ER (barCell g) 0 d ∗ barPay g d ∗ reached ER (barCell g) 0)
      ⊢ iprop((ow c O -∗ wp frame (wpE (defs₀ (F := F)) 𝒱₀ (c : Thread nD τ) none) Set.univ (kk ⟨⟩) Q)
        -∗ wp frame (wpE (defs₀ (F := F)) 𝒱₀ (c : Thread nD τ) none) Set.univ (semSignalWord dev barS 1#32 >>= kk) Q) := by
  subst h
  show _ ⊢ iprop(_ -∗ wp _ _ _ (.op (.semSignal (dev, .tc) barS ((1 : ℕ) : ℤ)) kk) Q)
  unfold ow
  iintro ⟨#Hi, ⟨%W, Ho⟩, Ht, Hp, Hr⟩ Hk
  ihave #Hg := (invs_bar p K dev) $$ Hi
  iapply (Rounds.wp_signal 𝒱₀ ER (Rd p) (c : Thread nD τ) none (dst := (dev : Thread nD τ)) (sem := barS) (r := 0) (d := d) (κ := K (barCell dev))
      (by rw [duties_bar]; exact Finset.mem_univ _) (amount_bar p dev d) () O hO (W := W)) $$ [Ho Ht Hp Hr]
  · isplitl []; · iexact Hg
    isplitl [Ho]; · iexact Ho
    isplitl [Ht]; · iexact Ht
    isplitl [Hp]; · rw [payload_bar]; iexact Hp
    iexact Hr
  iintro Ho
  iapply Hk
  iexists W; iexact Ho

/-- Waiting for two units at the own barrier brings what both neighbours hand over. -/
theorem bar_wait {O : CellTallies nD τ sig Unit} {kk : PUnit → Prog (TpuEff nD τ sig (Elt F) Λ₀ .tc) α} :
    iprop(invs p K ∗ cred (tallyAt (barCell c) () 2) ∗ ow c O ∗ MayWait (c : Thread nD τ) (.reg barS) () O ∗ atPos ER (barCell c) 0 ∅ 0)
      ⊢ iprop((ow c O ∗ atPos ER (barCell c) 1 ∅ 0 ∗ barPay c false ∗ barPay c true
          -∗ wp frame (wpE (defs₀ (F := F)) 𝒱₀ (c : Thread nD τ) none) Set.univ (kk ⟨⟩) Q)
        -∗ wp frame (wpE (defs₀ (F := F)) 𝒱₀ (c : Thread nD τ) none) Set.univ (semWaitWord barS 2#32 >>= kk) Q) := by
  show _ ⊢ iprop(_ -∗ wp _ _ _ (.op (.semWait barS ((2 : ℕ) : ℤ)) kk) Q)
  unfold ow
  iintro ⟨#Hi, Hc, ⟨%W, Ho⟩, Hm, Ha⟩ Hk
  ihave #Hg := (invs_bar p K c) $$ Hi
  iapply (Rounds.wp_wait_rest_token 𝒱₀ ER (Rd p) (c : Thread nD τ) none (κ := K (barCell c))
    (wpE_semWait_eq 𝒱₀ (c : Thread nD τ) none Set.univ) (Set.mem_univ _) () (O := O) (W := W) (R := 0) (m := 0) (T := ∅)
    ((Nat.zero_add 2).trans (expect_bar p c).symm)) $$ [Hc Ho Hm Ha]
  · isplitl []; · iexact Hg
    isplitl [Hc]; · iexact Hc
    isplitl [Ho]; · iexact Ho
    isplitl [Hm]; · iexact Hm
    iexact Ha
  iintro ⟨Ho, Ha, -, Hp⟩
  iapply Hk
  isplitl [Ho]; · iexists _; iexact Ho
  isplitl [Ha]; · iexact Ha
  ihave Hp := (Entails.of_eq (rest_bar p c)) $$ Hp
  iexact Hp

/-- A program that is finished meets what holds after it. -/
theorem done_ret {Q : PUnit → sProp (MT nD τ sig Unit (Elt F) ℕ UU ℕ)} :
    (|={Set.univ}=> Q ⟨⟩) ⊢ wp frame (wpE (defs₀ (F := F)) 𝒱₀ (c : Thread nD τ) none) Set.univ (pure ⟨⟩) Q := by
  show _ ⊢ wp _ _ _ (.ret _) _
  rw [wp_ret]

end Barrier

/-! ## What a device starts from and ends at -/

/-- The rights chunk `k` is paid with, and the credit for its two arrivals. -/
def Tok (k : Fin 16) : sProp 𝕄 :=
  iprop(tok c 0 k ∗ tok (yp c) 1 k ∗ tok c 2 k ∗ tok (xp c) 3 k ∗ tok c 4 k ∗ cr c 1 k ∗ cr c 3 k)
/-- A counter in use, at its start. -/
def Opn (x : Fin 5 × Fin 16) : sProp 𝕄 := iprop(at0 c x.1 x.2 ∗ rch c x.1 x.2)
/-- The start barrier's part. -/
def Bar : sProp 𝕄 :=
  iprop(atPos ER (barCell c) 0 ∅ 0 ∗ cred (tallyAt (barCell c) () 2) ∗ dutyTok ER (barCell (yp c)) 0 false ∗ reached ER (barCell (yp c)) 0
    ∗ dutyTok ER (barCell (xp c)) 0 true ∗ reached ER (barCell (xp c)) 0)
/-- The rows of the neighbour that chunk `k` fills, as the barrier hands them over. -/
def gotY (k : Fin 16) : sProp 𝕄 := iprop(anyq (yp c) (commV k) fullShare ∗ reached ER (cell (yp c) 1 k) 0)
def gotX (k : Fin 16) : sProp 𝕄 := iprop(anyq (xp c) (outV (hx c) k) fullShare ∗ reached ER (cell (xp c) 3 k) 0)
/-- What the row neighbour's signal brings. -/
theorem barPay_false : (barPay (F := F) c false : sProp 𝕄) = bigSep Finset.univ (gotY c) := rfl
/-- What the column neighbour's signal brings. -/
theorem barPay_true : (barPay (F := F) c true : sProp 𝕄) = bigSep Finset.univ (gotX c) := rfl
/-- What a device hands its neighbours with its signals. -/
theorem give_y : iprop((bigSep Finset.univ fun k : Fin 16 => anyq c (commV k) fullShare) ∗ bigSep Finset.univ fun k : Fin 16 => rch c 1 k)
    ⊢ (barPay (yp c) false : sProp 𝕄) := by
  rw [← bigSep_sep']; unfold barPay; rw [yp_yp]
/-- The half of the result that the column neighbour fills, with the arrivals open, is what the signal to it brings. -/
theorem give_x : iprop((bigSep Finset.univ fun k : Fin 16 => anyq c (outV (hx (xp c)) k) fullShare) ∗ bigSep Finset.univ fun k : Fin 16 => rch c 3 k)
    ⊢ (barPay (xp c) true : sProp 𝕄) := by
  rw [← bigSep_sep']; unfold barPay; rw [xp_xp]

/-- The counters' starts, chunk by chunk, and the facts for the neighbours. -/
def Opn5 (k : Fin 16) : sProp 𝕄 := iprop(Opn c (0, k) ∗ Opn c (1, k) ∗ Opn c (2, k) ∗ Opn c (3, k) ∗ Opn c (4, k))
/-- Two counters of a chunk being in use may be recorded for the neighbours. -/
theorem opn_facts (k : Fin 16) : (Opn5 (F := F) c k : sProp 𝕄) ⊢ iprop(Opn5 c k ∗ rch c 1 k ∗ rch c 3 k) := by
  unfold Opn5 Opn
  iintro ⟨H0, ⟨H1, #R1⟩, H2, ⟨H3, #R3⟩, H4⟩
  isplitl [H0 H1 H2 H3 H4]
  · isplitl [H0]; · iexact H0
    isplitl [H1]; · isplitl [H1]; · iexact H1
                    iexact R1
    isplitl [H2]; · iexact H2
    isplitl [H3]; · isplitl [H3]; · iexact H3
                    iexact R3
    iexact H4
  isplitl []; · iexact R1
  iexact R3

/-- All counters in use, listed chunk by chunk. -/
theorem opn_all : (bigSep Finset.univ (Opn (F := F) c) : sProp 𝕄)
    ⊢ iprop(bigSep Finset.univ (Opn5 c) ∗ (bigSep Finset.univ fun k : Fin 16 => rch c 1 k) ∗ bigSep Finset.univ fun k : Fin 16 => rch c 3 k) := by
  rw [by_chunk, ← bigSep_sep', ← bigSep_sep']
  exact bigSep_mono fun k _ => opn_facts c k

/-- Everything of one chunk, once the barrier is passed. -/
def ring4 (k : Fin 16) : sProp 𝕄 := if k.val < 4 then anyq c (ringU (sl k)) fullShare else iprop(emp)
/-- What one chunk needs, sorted into its part's way and its sum's way. -/
theorem deal (k : Fin 16) : iprop(Tok c k ∗ Opn5 c k ∗ gotY c k ∗ gotX c k ∗ anyq c (outV (hx c) k) fullShare ∗ ring4 c k)
    ⊢ (iprop(A0 c k ∗ B0 c k) : sProp 𝕄) := by
  unfold Tok Opn5 Opn gotY gotX ring4 A0 B0
  iintro ⟨⟨T0, T1, T2, T3, T4, C1, C3⟩, ⟨⟨H0, R0⟩, ⟨H1, -⟩, ⟨H2, R2⟩, ⟨H3, -⟩, ⟨H4, R4⟩⟩, ⟨Y, RY⟩, ⟨X, RX⟩, O, G⟩
  isplitl [T0 R0 T1 RY H0 Y G]
  · isplitl [T0]; · iexact T0
    isplitl [R0]; · iexact R0
    isplitl [T1]; · iexact T1
    isplitl [RY]; · iexact RY
    isplitl [H0]; · iexact H0
    isplitl [Y]; · iexact Y
    iexact G
  isplitl [C1]; · iexact C1
  isplitl [H1]; · iexact H1
  isplitl [T2]; · iexact T2
  isplitl [R2]; · iexact R2
  isplitl [T4]; · iexact T4
  isplitl [R4]; · iexact R4
  isplitl [T3]; · iexact T3
  isplitl [RX]; · iexact RX
  isplitl [X]; · iexact X
  isplitl [O]; · iexact O
  isplitl [C3]; · iexact C3
  isplitl [H2]; · iexact H2
  isplitl [H3]; · iexact H3
  iexact H4
/-- The same for all chunks. -/
theorem deal_all : iprop(bigSep Finset.univ (Tok c) ∗ bigSep Finset.univ (Opn5 c) ∗ bigSep Finset.univ (gotY c) ∗ bigSep Finset.univ (gotX c)
      ∗ (bigSep Finset.univ fun k => anyq c (outV (hx c) k) fullShare) ∗ bigSep Finset.univ (ring4 c))
    ⊢ (iprop(bigSep Finset.univ (A0 c) ∗ bigSep Finset.univ (B0 c)) : sProp 𝕄) := by
  rw [← bigSep_sep', ← bigSep_sep', ← bigSep_sep', ← bigSep_sep', ← bigSep_sep', ← bigSep_sep']
  exact bigSep_mono fun k _ => deal c k

/-- Everything of one chunk, at the end. -/
def ring12 (k : Fin 16) : sProp 𝕄 := if 12 ≤ k.val then anyq c (ringU (sl k)) fullShare else iprop(emp)
def At5 (k : Fin 16) : sProp 𝕄 := iprop(at1 c 0 k ∗ at1 c 1 k ∗ at1 c 2 k ∗ at1 c 3 k ∗ at1 c 4 k)
/-- What one chunk leaves when both its ways are done. -/
theorem undeal (k : Fin 16) : iprop(A2 c k ∗ B2 p c k)
    ⊢ (iprop(At5 c k ∗ ring12 c k ∗ anyq c (commV k) fullShare
      ∗ has c (outV (hx c) k) fullShare (sm p c k) ∗ has c (outV (hx (xp c)) k) fullShare (sm p (xp c) k)) : sProp 𝕄) := by
  unfold A2 B2 At5 ring12
  iintro ⟨⟨H0, G⟩, H1, H2, H3, H4, Y, O, X⟩
  isplitl [H0 H1 H2 H3 H4]
  · isplitl [H0]; · iexact H0
    isplitl [H1]; · iexact H1
    isplitl [H2]; · iexact H2
    isplitl [H3]; · iexact H3
    iexact H4
  isplitl [G]; · iexact G
  isplitl [Y]; · iexact Y
  isplitl [O]; · iexact O
  iexact X
/-- The same for all chunks. -/
theorem undeal_all : iprop(bigSep Finset.univ (A2 c) ∗ bigSep Finset.univ (B2 p c))
    ⊢ (iprop(bigSep Finset.univ (At5 c) ∗ bigSep Finset.univ (ring12 c) ∗ (bigSep Finset.univ fun k : Fin 16 => anyq c (commV k) fullShare)
      ∗ (bigSep Finset.univ fun k : Fin 16 => has c (outV (hx c) k) fullShare (sm p c k))
      ∗ bigSep Finset.univ fun k : Fin 16 => has c (outV (hx (xp c)) k) fullShare (sm p (xp c) k)) : sProp 𝕄) := by
  rw [← bigSep_sep', ← bigSep_sep', ← bigSep_sep', ← bigSep_sep', ← bigSep_sep']
  exact bigSep_mono fun k _ => undeal p c k

/-- The counters put back at zero. -/
theorem close_all : iprop(invs p K ∗ bigSep Finset.univ (At5 c))
    ⊢ (|={Set.univ}=> bigSep Finset.univ fun x : Fin 5 × Fin 16 => semVal (cell c x.1 x.2) 0 : sProp 𝕄) := by
  rw [show (bigSep Finset.univ (At5 (F := F) c) : sProp 𝕄) = bigSep Finset.univ fun x : Fin 5 × Fin 16 => at1 c x.1 x.2 from
    (by_chunk fun x : Fin 5 × Fin 16 => at1 c x.1 x.2).symm]
  refine .trans (bigSep_with_persistent (R := invs p K) (Φ := fun x : Fin 5 × Fin 16 => at1 c x.1 x.2)
    (Ψ := fun x : Fin 5 × Fin 16 => iprop(|={Set.univ}=> semVal (cell c x.1 x.2) 0)) fun x _ => ?_) (bigSep_fupd _ _)
  iintro ⟨#Hi, Ha⟩
  ihave #Hg := (invs_cell p K c x.1 x.2) $$ Hi
  iapply (Rounds.cell_close ER (Rd p) (g := cell c x.1 x.2) (Set.mem_univ (K (cell c x.1 x.2))) id (duties_later p (cell c x.1 x.2)))
  isplitl []; · iexact Hg
  iexact Ha

variable (a0 : Memref sig .tc .vmem S2048x1 .i32) (w0 : a0.IsWhole) (a1 : Memref sig .tc .vmem S8192x2048 .bf16) (w1 : a1.IsWhole)
  (w2 : (Memref.whole main_v19 : Memref sig .tc .hbm S4096x2048 .f32).IsWhole) (w3 : ringM.IsWhole) (w4 : commM.IsWhole)
  (f0 : Buf (Elt F) (a0.view.loc (c : Thread nD τ))) (f1 : Buf (Elt F) (a1.view.loc (c : Thread nD τ)))

def Pre (g : Buf (Elt F) ((c : Thread nD τ).loc main_v19)) : sProp 𝕄 :=
  iprop(levAts L lv ∗ invs p K ∗ ow c (O₀ c) ∗ Bar c ∗ bigSep Finset.univ (Tok c) ∗ bigSep Finset.univ (Opn c)
    ∗ (∃ f, pt c cc0_scratch0 f) ∗ (∃ f, pt c cc0_scratch1 f) ∗ pt c main_v19 g ∗ pv c a0 fullShare f0 ∗ pv c a1 fullShare f1)
def Post : sProp 𝕄 :=
  iprop(ow c 0 ∗ semVal (barCell c) 0 ∗ (bigSep Finset.univ fun x : Fin 5 × Fin 16 => semVal (cell c x.1 x.2) 0)
    ∗ (∃ f, pt c cc0_scratch0 f) ∗ (∃ f, pt c cc0_scratch1 f) ∗ pt c main_v19 (result p c) ∗ pv c a0 fullShare f0 ∗ pv c a1 fullShare f1)

/-- Before the first trip no part is begun. -/
theorem A_start : A p c 0 0 = bigSep Finset.univ (A0 c) := by
  unfold A; exact bigSep_congr fun k _ => if_pos (Nat.zero_le _)
/-- At the end all parts are gone. -/
theorem A_finish : A p c 16 16 = bigSep Finset.univ (A2 c) := by
  unfold A; exact bigSep_congr fun k _ => (if_neg (by omega)).trans (if_neg (by omega))

/-- The ring at the start, dealt to the first four chunks. -/
theorem ring_first (f : Buf (Elt F) ((c : Thread nD τ).loc cc0_scratch0)) : (pt c cc0_scratch0 f : sProp 𝕄) ⊢ bigSep Finset.univ (ring4 c) :=
  (ring_cut c f).trans (Entails.of_eq (slots_eq (fun k : Fin 16 => k.val < 4) 0 (by decide) (fun s => anyq c (ringU s) fullShare)).symm)
/-- The ring at the end, taken back from the last four. -/
theorem ring_last : (bigSep Finset.univ (ring12 c) : sProp 𝕄) ⊢ iprop(∃ f, pt c cc0_scratch0 f) :=
  (Entails.of_eq (slots_eq (fun k : Fin 16 => 12 ≤ k.val) 3 (by decide) (fun s => anyq c (ringU s) fullShare))).trans (ring_glue c)

/-- The end of the run: the counters at rest, the buffers whole. -/
theorem finish : iprop(invs p K ∗ atPos ER (barCell c) 1 ∅ 0 ∗ bigSep Finset.univ (A2 c) ∗ bigSep Finset.univ (B2 p c))
    ⊢ (|={Set.univ}=> iprop(semVal (barCell c) 0 ∗ (bigSep Finset.univ fun x : Fin 5 × Fin 16 => semVal (cell c x.1 x.2) 0)
      ∗ (∃ f, pt c cc0_scratch0 f) ∗ (∃ f, pt c cc0_scratch1 f) ∗ pt c main_v19 (result p c)) : sProp 𝕄) := by
  iintro ⟨#Hi, Hb, HA, HB⟩
  ihave H := (undeal_all p c) $$ [HA HB]
  · isplitl [HA] <;> iassumption
  icases H with ⟨H5, Hr, Hc, Ho⟩
  ihave #Hg := (invs_bar p K c) $$ Hi
  imod (Rounds.cell_close ER (Rd p) (g := barCell c) (Set.mem_univ (K (barCell c))) id (duties_later p (barCell c))) $$ [Hb] with Hb
  · isplitl []; · iexact Hg
    iexact Hb
  imod (close_all p K c) $$ [H5] with H5
  · isplitl []; · iexact Hi
    iexact H5
  imodintro
  isplitl [Hb]; · iexact Hb
  isplitl [H5]; · iexact H5
  isplitl [Hr]; · iapply (ring_last c); iexact Hr
  isplitl [Hc]; · iapply (comm_glue c); iexact Hc
  iapply (out_glue c p); iexact Ho

/-- The two loops' sides: the first from the chunks dealt out. -/
theorem inv1_start : iprop(levAts L lv ∗ invs p K ∗ ow c (OY c 0 + OX c 0) ∗ bigSep Finset.univ (A0 c) ∗ bigSep Finset.univ (B0 c)
      ∗ pv c a0 fullShare f0 ∗ pv c a1 fullShare f1) ⊢ (Inv1 p K c a0 a1 f0 f1 0 : sProp 𝕄) := by
  rw [← A_start p c, ← fam_zero (B0 c) (B1 c)]; exact .rfl

/-- The first loop makes seventeen trips. -/
theorem trips1 : Scf.trips k0_t1_loop.lb k0_t1_loop.ub k0_t1_loop.st = 17 := by decide +kernel
/-- The second loop makes sixteen. -/
theorem trips2 : Scf.trips k0_t2_loop.lb k0_t2_loop.ub k0_t2_loop.st = 16 := by decide +kernel
/-- Between the loops nothing is owed, and every chunk of the partial sums has been sent. -/
theorem inv1_inv2 : (Inv1 p K c a0 a1 f0 f1 (Scf.trips k0_t1_loop.lb k0_t1_loop.ub k0_t1_loop.st) : sProp 𝕄)
    ⊢ iprop(Inv2 p K c 0 ∗ pv c a0 fullShare f0 ∗ pv c a1 fullShare f1) := by
  rw [trips1]
  unfold Inv1 Inv2
  rw [OY_end c 17 (by decide), OX_end c 17 (by decide), add_zero]
  show iprop(_ ∗ _ ∗ _ ∗ A p c 16 12 ∗ fam (B0 c) (B1 c) 16 ∗ _ ∗ _) ⊢ iprop((_ ∗ _ ∗ A p c 16 12 ∗ fam (B1 c) (B2 p c) 0) ∗ _)
  rw [fam_end, fam_zero]
  iintro ⟨-, Hi, Ho, HA, HB, H0, H1⟩
  isplitl [Hi Ho HA HB]
  · isplitl [Hi]; · iexact Hi
    isplitl [Ho]; · iexact Ho
    isplitl [HA]; · iexact HA
    iexact HB
  isplitl [H0] <;> iassumption
/-- After the second loop every chunk is done and nothing is owed. -/
theorem inv2_end : (Inv2 p K c (Scf.trips k0_t2_loop.lb k0_t2_loop.ub k0_t2_loop.st) : sProp 𝕄)
    ⊢ iprop(invs p K ∗ ow c 0 ∗ bigSep Finset.univ (A2 c) ∗ bigSep Finset.univ (B2 p c)) := by
  rw [trips2]
  unfold Inv2
  show iprop(_ ∗ _ ∗ A p c 16 16 ∗ fam (B1 c) (B2 p c) 16) ⊢ _
  rw [fam_end, A_finish]

/-- The two loops, as the kernel on device `d` runs them. -/
def loops (d : Dev nD) : Prog (TpuEff nD τ sig (Elt F) Λ₀ .tc) PUnit := do
  Scf.Loop.for k0_t1_loop k0_t1_ok ⟨⟩ (k0_t1_body a0 w0 a1 w1 (Memref.whole main_v19) w2 ringM w3 commM w4 cc0_scratch2 cc0_scratch3 cc0_scratch4 cc0_scratch5
    cc0_scratch6 d (Scalar.remsi (Scalar.divsi (Dev.word d) 2#32) 2#32) (Scalar.remsi (Scalar.divsi (Dev.word d) 1#32) 2#32)
    (Scalar.muli (Scalar.remsi (Scalar.divsi (Dev.word d) 2#32) 2#32) 2048#32))
  Scf.Loop.for k0_t2_loop k0_t2_ok ⟨⟩ (k0_t2_body a0 w0 a1 w1 (Memref.whole main_v19) w2 ringM w3 commM w4 cc0_scratch2 cc0_scratch3 cc0_scratch4 cc0_scratch5
    cc0_scratch6 d)
  pure ⟨⟩
/-- The kernel on device `d`: the barrier, then the loops. -/
def steps (d : Dev nD) : Prog (TpuEff nD τ sig (Elt F) Λ₀ .tc) PUnit :=
  semSignalWord (⟨k0_dev1 d, k0_dev1_lt d⟩ : Dev nD) barS 1#32 >>= fun _ =>
  semSignalWord (⟨k0_dev2 d, k0_dev2_lt d⟩ : Dev nD) barS 1#32 >>= fun _ =>
  semWaitWord barS 2#32 >>= fun _ => loops a0 w0 a1 w1 w2 w3 w4 d
/-- The kernel's body is the barrier and the two loops, at the device it runs on. -/
theorem body_steps : (cc0_body a0 w0 a1 w1 (Memref.whole main_v19) w2 ringM w3 commM w4 cc0_scratch2 cc0_scratch3 cc0_scratch4 cc0_scratch5 cc0_scratch6
    : Prog (TpuEff nD τ sig (Elt F) Λ₀ .tc) PUnit) = Prog.lift .deviceId >>= fun d => steps a0 w0 a1 w1 w2 w3 w4 d := by
  rw [cc0_body_eq_skeleton]; rfl

/-- The loops, from the chunks dealt out to the result. -/
theorem loops_run (hp : ∀ k, p c k = k0_pay1 (idsAt c a0 f0 k) (tblAt c a1 f1)) :
    iprop(Inv1 p K c a0 a1 f0 f1 0 ∗ invs p K ∗ atPos ER (barCell c) 1 ∅ 0)
      ⊢ (wp frame (wpE (defs₀ (F := F)) 𝒱₀ (c : Thread nD τ) none) Set.univ (loops a0 w0 a1 w1 w2 w3 w4 c) fun _ => Post p c a0 a1 f0 f1 : sProp 𝕄) := by
  unfold loops
  iintro ⟨HI, #Hi, Hb⟩
  iapply (Scf.wp_for_bind _ _ _ _ _ _ k0_t1_ok (⟨⟩ : Unit) _ (fun t _ => Inv1 p K c a0 a1 f0 f1 t)
    (fun t x => trip1 p K c a0 w0 a1 w1 w2 w3 w4 f0 f1 _ _ _ hp t x)) $$ HI
  iintro %_u HI
  ihave HI := (inv1_inv2 p K c a0 a1 f0 f1) $$ HI
  icases HI with ⟨HI, Hf0, Hf1⟩
  iapply (Scf.wp_for_bind _ _ _ _ _ _ k0_t2_ok (⟨⟩ : Unit) _ (fun t _ => Inv2 p K c t)
    (fun t x => trip2 p K c a0 w0 a1 w1 w2 w3 w4 t x)) $$ HI
  iintro %_u' HI
  ihave HI := (inv2_end p K c) $$ HI
  icases HI with ⟨-, Ho, HA, HB⟩
  iapply (done_ret c)
  imod (finish p K c) $$ [Hb HA HB] with H
  · isplitl []; · iexact Hi
    isplitl [Hb]; · iexact Hb
    isplitl [HA] <;> iassumption
  icases H with ⟨Hb, H5, Hr, Hc, Hres⟩
  imodintro
  unfold Post
  isplitl [Ho]; · iexact Ho
  isplitl [Hb]; · iexact Hb
  isplitl [H5]; · iexact H5
  isplitl [Hr]; · iexact Hr
  isplitl [Hc]; · iexact Hc
  isplitl [Hres]; · iexact Hres
  isplitl [Hf0] <;> iassumption

/-- The kernel on device `c`: from its buffers, its rights and its debts to the result and the counters at rest. -/
theorem body_run (hp : ∀ k, p c k = k0_pay1 (idsAt c a0 f0 k) (tblAt c a1 f1)) (g : Buf (Elt F) ((c : Thread nD τ).loc main_v19)) :
    Pre p K c a0 a1 f0 f1 g
      ⊢ (wp frame (wpE (defs₀ (F := F)) 𝒱₀ (c : Thread nD τ) none) Set.univ
          (cc0_body a0 w0 a1 w1 (Memref.whole main_v19) w2 ringM w3 commM w4 cc0_scratch2 cc0_scratch3 cc0_scratch4 cc0_scratch5 cc0_scratch6)
          fun _ => Post p c a0 a1 f0 f1 : sProp 𝕄) := by
  rw [body_steps, Prog.bind_lift, wp_deviceId]
  unfold steps Pre Bar
  iintro ⟨#Hlev, #Hi, Ho, ⟨Hb, Hc, Ht1, Hr1, Ht2, Hr2⟩, HT, HO, ⟨%g0, Hg0⟩, ⟨%g1, Hg1⟩, Hout, Hf0, Hf1⟩
  ihave HO := (opn_all c) $$ HO
  icases HO with ⟨HO, HR1, HR3⟩
  ihave Hg1 := (comm_cut c g1) $$ Hg1
  ihave Hg0 := (ring_first c g0) $$ Hg0
  ihave Hout := (out_cut c g) $$ Hout
  icases Hout with ⟨Hmine, Htheirs⟩
  ihave Hy := (give_y c) $$ [Hg1 HR1]
  · isplitl [Hg1] <;> iassumption
  ihave Hx := (give_x c) $$ [Htheirs HR3]
  · isplitl [Htheirs] <;> iassumption
  iapply (signal_step p K c (yp c) false (OY c 0 + OX c 0 + tallyAt (barCell (xp c)) () 1) rfl (dev1_is c _)) $$ [Ho Ht1 Hy Hr1]
  · isplitl []; · iexact Hi
    isplitl [Ho]; · iexact Ho
    isplitl [Ht1]; · iexact Ht1
    isplitl [Hy]; · iexact Hy
    iexact Hr1
  iintro Ho
  iapply (signal_step p K c (xp c) true (OY c 0 + OX c 0) rfl (dev2_is c _)) $$ [Ho Ht2 Hx Hr2]
  · isplitl []; · iexact Hi
    isplitl [Ho]; · iexact Ho
    isplitl [Ht2]; · iexact Ht2
    isplitl [Hx]; · iexact Hx
    iexact Hr2
  iintro Ho
  iapply (bar_wait p K c (O := OY c 0 + OX c 0)) $$ [Hc Ho Hb]
  · isplitl []; · iexact Hi
    isplitl [Hc]; · iexact Hc
    isplitl [Ho]; · iexact Ho
    isplitl []; · iapply (mayWait_of c (.reg barS) 0 0 1 (by rw [lv_bar]) (by omega) (by omega)); iexact Hlev
    iexact Hb
  iintro ⟨Ho, Hb, Hy, Hx⟩
  ihave Hy := (Entails.of_eq (barPay_false c)) $$ Hy
  ihave Hx := (Entails.of_eq (barPay_true c)) $$ Hx
  ihave H := (deal_all c) $$ [HT HO Hy Hx Hmine Hg0]
  · isplitl [HT]; · iexact HT
    isplitl [HO]; · iexact HO
    isplitl [Hy]; · iexact Hy
    isplitl [Hx]; · iexact Hx
    isplitl [Hmine]; · iexact Hmine
    iexact Hg0
  icases H with ⟨HA, HB⟩
  ihave HI := (inv1_start p K c a0 a1 f0 f1) $$ [Ho HA HB Hf0 Hf1]
  · isplitl []; · iexact Hlev
    isplitl []; · iexact Hi
    isplitl [Ho]; · iexact Ho
    isplitl [HA]; · iexact HA
    isplitl [HB]; · iexact HB
    isplitl [Hf0] <;> iassumption
  iapply (loops_run p K c a0 w0 a1 w1 w2 w3 w4 f0 f1 hp)
  isplitl [HI]; · iexact HI
  isplitl []; · iexact Hi
  iexact Hb

end Whole

end Cert.KernelIdeal.Talk
-- ==== Proof.Region.lean ====
/-
  The kernel's call as one segment of the program: the windows' contents, what a device brings to the call and takes from it.
-/
module

public import proofs.«01_k».proof.Proof.Body
public import proofs.«01_k».proof.Proof.Gen.KernelIdeal.Points
public import proofs.«01_k».proof.Proof.Gen.KernelIdeal.Regions
public import Idealize.ShloMosaic.Lib.Pipeline.RegionTalk

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (c : Dev nD)

/-! ## The contents -/

/-- The ids of device `c`'s half, each less the first row of its shard. -/
def ids : Vec F S2048x1 .i32 := V1 m c main_v17
/-- Device `c`'s shard of the table. -/
def tbl : Vec F S8192x2048 .bf16 := V1 m c main_v18
/-- What device `c` finds in its shard for chunk `k`. -/
def prt (k : Fin 16) : FVec F S1x128x2048 .f32 :=
  k0_pay1 (fun x => ids m c ((Rect.unit (s := S2048x1) ![128 * k.val, 0] S128x1.size (ids_inb k)).idx x))
    (fun x => tbl m c ((Rect.unit (s := S8192x2048) ![0, 0] S8192x2048.size tbl_inb).idx x))
/-- The buffers after the call. -/
def after : Valuation τ sig (Elt F) := Function.update (V1 m c) (Proc.devRef .tc main_v19) (result (prt m) c)
/-- After the call the result's buffer holds the result. -/
theorem after_out : after m c (Proc.devRef .tc main_v19) = result (prt m) c := Function.update_self _ _ _
/-- The call changes no other buffer. -/
theorem after_ne (b : DevRef τ sig) (h : b ≠ Proc.devRef .tc main_v19) : after m c b = V1 m c b := Function.update_of_ne h _ _

/-! ## The states -/

/-- A right to put counter `x` to use. -/
def Shut (x : Fin 5 × Fin 16) : sProp 𝕄 := openTok ER (cell c x.1 x.2)
/-- What device `c` brings: the rules, its part of the barrier, its rights, its counters not yet in use. -/
def Tk : sProp 𝕄 :=
  iprop(∃ K, invs (prt m) K ∗ Bar c ∗ bigSep Finset.univ (Tok c) ∗ bigSep Finset.univ (Shut (F := F) c))
/-- The same with the counters in use. -/
def Xk : sProp 𝕄 :=
  iprop(∃ K, levAts L lv ∗ invs (prt m) K ∗ Bar c ∗ bigSep Finset.univ (Tok c) ∗ bigSep Finset.univ (Opn (F := F) c))
/-- What it keeps: its barrier at zero. -/
def Yk : sProp 𝕄 := semVal (barCell c) 0
/-- The two scratch buffers. -/
def scr : sProp 𝕄 := iprop((∃ f, pt c cc0_scratch0 f) ∗ (∃ f, pt c cc0_scratch1 f))
/-- The counters of the copies, at zero. -/
def rest0 : sProp 𝕄 := bigSep Finset.univ fun x : Fin 5 × Fin 16 => semVal (cell c x.1 x.2) 0
/-- Before the body. -/
def Start : sProp 𝕄 := iprop(Xk m c ∗ scr c ∗ pt c main_v19 (V1 m c main_v19) ∗ ∃ r, prngReg c r)
/-- After it. -/
def Finish : sProp 𝕄 := iprop(Yk c ∗ rest0 c ∗ scr c ∗ pt c main_v19 (result (prt m) c) ∗ ∃ r, prngReg c r)

def dat : Dat τ (Elt F) Unit ℕ UU ℕ cfg0 c where
  A := fun | 0 => V1 m c main_v17 | 1 => V1 m c main_v18
  after := fun | 0 => fun _ => ids m c | 1 => fun _ => tbl m c
  Φ t := if t.val = 0 then Start m c else Finish m c
  q _ := fullShare
  owed t := if t.val = 0 then O₀ c else 0

def pdats : (p : Fin 1) → (c : Dev nD) → Dat τ (Elt F) Unit ℕ UU ℕ (Pipeline.pin (pcfgs (F := F)) adm p) c := fun _ c => dat m c

/-- What holds before the one grid point. -/
theorem dat_first : (dat m c).Φ t0_0.castSucc = Start m c := rfl
/-- What holds after it. -/
theorem dat_last : (dat m c).Φ t0_0.succ = Finish m c := rfl

/-- Before it the device owes everything. -/
theorem owed_first : (dat m c).owed t0_0.castSucc = O₀ c := by
  show (if t0_0.castSucc.val = 0 then O₀ c else 0) = O₀ c; exact if_pos rfl
/-- After it the device owes nothing. -/
theorem owed_last : (dat m c).owed t0_0.succ = 0 := by
  show (if t0_0.succ.val = 0 then O₀ c else 0) = 0; exact if_neg (by decide)

/-- The first window holds the ids passed. -/
theorem before_ids (t : Fin cfg0.N) (d) : (dat m c).before 0 t d = ids m c := by
  rw [(dat m c).before_fetched 0 t (fetch0_0 t) d]
  exact Memref.read_access_unit_zero (Elt F) main_v17 (off := fun a => (cfg0.win 0).kind.off ((cfg0.win 0).index t a) ((cfg0.win 0).size a))
    (by funext a; exact Nat.zero_mul (S2048x1.size a)) (fun a => (congrArg (· + S2048x1.size a) (Nat.zero_mul (S2048x1.size a))).le.trans (Nat.zero_add _).le) (V1 m c main_v17)
/-- The second window holds the table passed. -/
theorem before_tbl (t : Fin cfg0.N) (d) : (dat m c).before 1 t d = tbl m c := by
  rw [(dat m c).before_fetched 1 t (fetch0_1 t) d]
  exact Memref.read_access_unit_zero (Elt F) main_v18 (off := fun a => (cfg0.win 1).kind.off ((cfg0.win 1).index t a) ((cfg0.win 1).size a))
    (by funext a; exact Nat.zero_mul (S8192x2048.size a)) (fun a => (congrArg (· + S8192x2048.size a) (Nat.zero_mul (S8192x2048.size a))).le.trans (Nat.zero_add _).le) (V1 m c main_v18)

/-- What is owed at a point, as one tally. -/
theorem owes_open (t : Fin (cfg0.N + 1)) : ((dat m c).owesAt () t : sProp 𝕄) ⊢ ow c ((dat m c).owed t) := by
  unfold Dat.owesAt Pipeline.owesWithin ow
  iintro ⟨%W, -, H⟩; iexists W; iexact H
/-- The same the other way round. -/
theorem owes_shut (t : Fin (cfg0.N + 1)) : ow c ((dat m c).owed t) ⊢ ((dat m c).owesAt () t : sProp 𝕄) := by
  unfold Dat.owesAt Pipeline.owesWithin Dat.bound ow
  iintro ⟨%W, H⟩; iexists W; isplitr; · ipureintro; exact fun _ _ => Or.inl trivial
  iexact H

/-- The body at the call's one point. -/
theorem body (c : Dev nD) : BodyObligation (dat m c) defs₀ 𝒱₀ () Set.univ := fun t => by
  obtain rfl := fin_N0 t
  rw [bigSep_W0, bigSep_W0, dat_first, dat_last]
  show iprop(Start m c ∗ (dat m c).owesAt () t0_0.castSucc
      ∗ (∃ d, owns c (st0_0 t0_0) fullShare ((dat m c).before 0 t0_0 d)) ∗ (∃ d, owns c (st0_1 t0_0) fullShare ((dat m c).before 1 t0_0 d)))
    ⊢ wp frame (wpE (defs₀ (F := F)) 𝒱₀ (c : Thread nD τ) none) Set.univ (bodyAt0 t0_0) fun _ =>
      iprop(Finish m c ∗ (dat m c).owesAt () t0_0.succ ∗ owns c (st0_0 t0_0) fullShare (ids m c) ∗ owns c (st0_1 t0_0) fullShare (tbl m c))
  unfold Start Xk scr Finish Yk rest0 scr owns
  iintro ⟨⟨⟨%K, #Hlev, Hi, HB, HT, HO⟩, ⟨Hs0, Hs1⟩, Hout, Hreg⟩, Ho, ⟨%d0, %f0, %e0, Hf0⟩, ⟨%d1, %f1, %e1, Hf1⟩⟩
  have e0 := e0.trans (before_ids m c t0_0 d0)
  have e1 := e1.trans (before_tbl m c t0_0 d1)
  ihave Ho := (owes_open m c _) $$ Ho
  ihave Ho := (Entails.of_eq (congrArg (ow (F := F) c) (owed_first m c))) $$ Ho
  iapply wp_wand $$ [Hi HB HT HO Hs0 Hs1 Hout Ho Hf0 Hf1]
  · iapply (body_run (prt m) K c (st0_0 t0_0) _ (st0_1 t0_0) _ _ _ _ f0 f1 (fun k => by rw [prt, ← e0, ← e1]; rfl) (V1 m c main_v19))
    unfold Pre
    isplitr; · iexact Hlev
    isplitl [Hi]; · iexact Hi
    isplitl [Ho]; · iexact Ho
    isplitl [HB]; · iexact HB
    isplitl [HT]; · iexact HT
    isplitl [HO]; · iexact HO
    isplitl [Hs0]; · iexact Hs0
    isplitl [Hs1]; · iexact Hs1
    isplitl [Hout]; · iexact Hout
    isplitl [Hf0] <;> iassumption
  unfold Post
  iintro %_ ⟨Ho, Hb, Hc, Hs0, Hs1, Hout, Hf0, Hf1⟩
  isplitl [Hb Hc Hs0 Hs1 Hout Hreg]
  · isplitl [Hb]; · iexact Hb
    isplitl [Hc]; · iexact Hc
    isplitl [Hs0 Hs1]; · isplitl [Hs0] <;> iassumption
    isplitl [Hout] <;> iassumption
  isplitl [Ho]
  · iapply (owes_shut m c _)
    iapply (Entails.of_eq (congrArg (ow (F := F) c) (owed_last m c)).symm) $$ Ho
  isplitl [Hf0]
  · iexists f0; isplitr; · ipureintro; exact e0
    iexact Hf0
  · iexists f1; isplitr; · ipureintro; exact e1
    iexact Hf1

/-! ## The segment -/

def osem (x : Fin 5 × Fin 16) : SemLoc sig := .dma (semA x.1 x.2)
/-- The counters of the copies are the call's own, each named once. -/
theorem osem_facts : Pipeline.OwnSemFacts spec0 osem := by decide

/-- One counter put to use. -/
theorem open_one (K : GSem nD τ sig → ℕ) (x : Fin 5 × Fin 16) :
    iprop(invs (prt m) K ∗ (Shut c x ∗ semVal (cell c x.1 x.2) 0)) ⊢ (|={Set.univ}=> Opn c x : sProp 𝕄) := by
  unfold Shut Opn
  iintro ⟨#Hi, Ht, Hv⟩
  ihave Hc := (invs_cell (prt m) K c x.1 x.2) $$ Hi
  iapply (Rounds.cell_open ER (Rd (prt m)) (g := cell c x.1 x.2) (Set.mem_univ (K (cell c x.1 x.2))))
  isplitl [Hc]; · iexact Hc
  isplitl [Ht] <;> iassumption
/-- All of them. -/
theorem open_all (K : GSem nD τ sig → ℕ) :
    iprop(invs (prt m) K ∗ (bigSep Finset.univ (Shut (F := F) c) ∗ rest0 c)) ⊢ (|={Set.univ}=> bigSep Finset.univ (Opn c) : sProp 𝕄) := by
  unfold rest0
  rw [← bigSep_sep']
  exact (bigSep_with_persistent (R := invs (prt m) K) (Φ := fun x => iprop(Shut c x ∗ semVal (cell c x.1 x.2) 0)) fun x _ => open_one m c K x).trans
    (bigSep_fupd _ _)

/-- The call's own counters, found at zero, are put to use. -/
theorem opened (c : Dev nD) : iprop(Tk m c ∗ Pipeline.ownSems0 osem c ∗ levAts L lv) ⊢ (|={Set.univ}=> Xk m c : sProp 𝕄) := by
  show iprop(Tk m c ∗ rest0 c ∗ levAts L lv) ⊢ _
  unfold Tk Xk
  iintro ⟨⟨%K, #Hi, HB, HT, HS⟩, Hr, #Hlev⟩
  imod (open_all m c K) $$ [HS Hr] with HO
  · isplitr; · iexact Hi
    isplitl [HS] <;> iassumption
  imodintro
  iexists K
  isplitr; · iexact Hlev
  isplitr; · iexact Hi
  isplitl [HB]; · iexact HB
  isplitl [HT] <;> iassumption

/-- The buffers the call reaches outside its windows. -/
def Hs : Finset (DevRef τ sig) := {Proc.devRef .tc main_v19}
/-- The buffers beside its windows' arrays. -/
def Sr : Finset (DevRef τ sig) := Pipeline.ucRefs τ sig \ Pipeline.arrRefs (τ := τ) spec0
/-- The result's buffer lies beside the windows' arrays. -/
theorem Hs_Sr : Hs ⊆ Sr := by decide

/-- Holding the buffers that the call reaches outside its windows is holding the result's. -/
theorem held_out (W : Valuation τ sig (Elt F)) : (StableHlo.held (c : Thread nD τ) Hs W : sProp 𝕄) = pt c main_v19 (W (Proc.devRef .tc main_v19)) := by
  unfold StableHlo.held Hs; rw [bigSep_singleton]

/-- The scratch that the call brings into being are the ring and the exchange rows. -/
theorem scopedR (c : Dev nD) :
    (Pipeline.scopedRest (Ix := Unit) (Name := ℕ) (U := UU) (Lvl := ℕ) (Val := Elt F) (Pipeline.pin (pcfgs (F := F)) adm 0).spec c : sProp 𝕄) = scr c :=
  scopedRest0_eq c

/-- What the call finds on entry is what the body starts from. -/
theorem enters (c : Dev nD) : iprop(Pipeline.scopedRest (Pipeline.pin (pcfgs (F := F)) adm 0).spec c ∗ (∃ r, prngReg c r)
      ∗ StableHlo.held (c.tc : Thread nD τ) Hs (V1 m c) ∗ Xk m c) ⊢ (pdats m 0 c).Φ 0 := by
  rw [show (pdats m 0 c).Φ 0 = Start m c from rfl, scopedR, held_out]
  unfold Start
  iintro ⟨Hs, Hp, Ho, HX⟩
  isplitl [HX]; · iexact HX
  isplitl [Hs]; · iexact Hs
  isplitl [Ho] <;> iassumption

/-- What the body ends with is what the call gives back. -/
theorem leaves (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (after m c)
      ∗ Pipeline.ownSems0 osem c ∗ Yk c) := by
  rw [show (pdats m 0 c).Φ (Fin.last _) = Finish m c from rfl, scopedR, held_out, after_out,
    show (Pipeline.ownSems0 osem c : sProp 𝕄) = rest0 c from rfl]
  unfold Finish
  iintro ⟨HY, Hr, Hs, Ho, Hp⟩
  isplitl [Hs]; · iexact Hs
  isplitl [Hp]; · iexact Hp
  isplitl [Ho]; · iexact Ho
  isplitl [Hr] <;> iassumption

/-- Every debt of the start is above the windows' own counters. -/
theorem owed_high {d : Dev nD} {g : GSem nD τ sig} {u : Unit} (h : 0 < O₀ d g u) : u ∈ L g ∧ 0 < lv g u := by
  unfold O₀ at h
  simp only [Pi.add_apply, Finsupp.add_apply] at h
  have key : (0 < OY d 0 g u ∨ 0 < OX d 0 g u) ∨ ((tallyAt (barCell (xp d)) () 1 : CellTallies nD τ sig Unit) g u ≠ 0
      ∨ (tallyAt (barCell (yp d)) () 1 : CellTallies nD τ sig Unit) g u ≠ 0) := by omega
  cases u
  rcases key with (h | h) | (h | h)
  · obtain ⟨k, -, rfl⟩ := OY_pos h
    exact ⟨by rw [L_tc]; exact Finset.mem_singleton_self _, by rw [lv_1]; omega⟩
  · obtain ⟨k, rfl⟩ := OX_pos h
    exact ⟨by rw [L_tc]; exact Finset.mem_singleton_self _, by rw [lv_3]; omega⟩
  all_goals
    rw [tallyAt_apply] at h
    obtain ⟨rfl, -⟩ := (ite_ne_right_iff.mp h).1
    exact ⟨by rw [L_tc]; exact Finset.mem_singleton_self _, by rw [lv_bar]; omega⟩

/-- The waits of the windows' own copies stand below all that a device owes. -/
theorem cut : Pipeline.LevelCutOwed (pcfgs (F := F)) adm (pdats m) () L lv 0 (fun _ => 0) :=
  ⟨fun c w s => by rw [show L _ = {()} from L_tc c _]; exact Finset.mem_singleton_self _,
    fun _ w s => (by decide : ∀ (w : Fin 2) (s : Fin (spec0 w).nbuf), lv (((0 : Dev nD) : Thread nD τ), SemLoc.dma ((spec0 w).sem s)) () ≤ 0) w s,
    fun c t g i h => by
      have e : (pdats m 0 c).owed t = if t.val = 0 then O₀ c else 0 := rfl
      rw [e] at h
      split at h
      · exact owed_high h
      · exact absurd h (Nat.lt_irrefl 0)⟩

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem osem_facts
    Hs Sr Hs_Sr launch0.toP rfl (fun c => (body m c).loose)
    (fun _ => 0) O₀ (fun c => (owed_first m c).trans (zero_add _).symm) (fun c => owed_last m c) (fun _ => rfl)
    (fun _ w => by fin_cases w <;> rfl)
    (V1 m) (after m) (fun c b hb => after_ne m c b fun e => (Finset.mem_sdiff.mp hb).2 (Finset.mem_singleton.mpr e))
    (Tk m) Yk (Xk m) Yk (opened m) (enters m) (leaves m)
    (fun c => by iintro H; imodintro; iexact H)
    (fun _ => 0) (cut m) (fun _ => iprop(emp))
    (fun c w => by fin_cases w <;> rfl)
    (fun c w => by
      fin_cases w
      · exact (after_ne m c (Proc.devRef .tc main_v17) (by decide)).symm
      · exact (after_ne m c (Proc.devRef .tc main_v18) (by decide)).symm)

end Cert.KernelIdeal.Talk
-- ==== Proof.Run.lean ====
/-
  The whole program on the four devices: what is set up at the start, who gets what, and what every run ends at.
-/
module

public import proofs.«01_k».proof.Proof.Region
public import Idealize.ShloMosaic.Lib.Quiescent

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The counters and the rights to pay them -/

def barEmb : Dev nD ↪ GSem nD τ sig := ⟨fun c => barCell c, fun _ _ h => congrArg (fun g : GSem nD τ sig => g.1.1) h⟩
def cellEmb : Dev nD × Fin 5 × Fin 16 ↪ GSem nD τ sig :=
  ⟨fun x => cell x.1 x.2.1 x.2.2, fun _ _ h => by obtain ⟨h1, h2, h3⟩ := cell_inj h; exact Prod.ext h1 (Prod.ext h2 h3)⟩
/-- A barrier is not a copy's counter. -/
theorem bar_ne_cell (c c' : Dev nD) (i : Fin 5) (k : Fin 16) : barCell c ≠ cell c' i k := fun h => by
  have e : (SemLoc.reg barS : SemLoc sig) = .dma (semA i k) := congrArg Prod.snd h
  cases e

abbrev bars : Finset (GSem nD τ sig) := Finset.univ.map barEmb
abbrev cells : Finset (GSem nD τ sig) := Finset.univ.map cellEmb
/-- The barriers and the copies' counters are different counters. -/
theorem bars_cells : Disjoint bars cells := by
  rw [Finset.disjoint_left]
  rintro g h h'
  obtain ⟨c, -, rfl⟩ := Finset.mem_map.mp h
  obtain ⟨x, -, e⟩ := Finset.mem_map.mp h'
  exact bar_ne_cell _ _ _ _ e.symm

/-- One right per payment: two for each barrier, one for each counter of a copy. -/
def tokEmb : Dev nD × (Bool ⊕ Fin 5 × Fin 16) ↪ GSem nD τ sig × ℕ × Bool :=
  ⟨fun x => x.2.elim (fun b => (barCell x.1, 0, b)) (fun y => (cell x.1 y.1 y.2, 0, false)), by
    rintro ⟨c, b | x⟩ ⟨c', b' | x'⟩ h
    · obtain rfl : c = c' := congrArg (fun t : GSem nD τ sig × ℕ × Bool => t.1.1.1) h
      obtain rfl : b = b' := congrArg (fun t : GSem nD τ sig × ℕ × Bool => t.2.2) h
      rfl
    · exact absurd (congrArg Prod.fst h) (bar_ne_cell _ _ _ _)
    · exact absurd (congrArg Prod.fst h).symm (bar_ne_cell _ _ _ _)
    · obtain ⟨rfl, h2, h3⟩ := cell_inj (congrArg Prod.fst h)
      obtain rfl : x = x' := Prod.ext h2 h3
      rfl⟩
abbrev toks : Finset (GSem nD τ sig × ℕ × Bool) := Finset.univ.map tokEmb

/-- The rights of device `c`'s own counters. -/
abbrev rts (i : Fin 5) (c : Dev nD) : sProp 𝕄 := bigSep Finset.univ (tok c i)
abbrev own (c : Dev nD) : sProp 𝕄 :=
  iprop((dutyTok ER (barCell c) 0 false ∗ dutyTok ER (barCell c) 0 true) ∗ rts 0 c ∗ rts 1 c ∗ rts 2 c ∗ rts 3 c ∗ rts 4 c)
/-- The rights device `c` uses: some of them its neighbours'. -/
abbrev use (c : Dev nD) : sProp 𝕄 :=
  iprop((dutyTok ER (barCell (yp c)) 0 false ∗ dutyTok ER (barCell (xp c)) 0 true) ∗ rts 0 c ∗ rts 1 (yp c) ∗ rts 2 c ∗ rts 3 (xp c) ∗ rts 4 c)

/-- All rights to pay, listed device by device. -/
theorem toks_own : bigSep toks (fun x => (dutyTok ER x.1 x.2.1 x.2.2 : sProp 𝕄)) = bigSep Finset.univ fun c : Dev nD => own c := by
  rw [bigSep_map, bigSep_univ_prod]
  refine bigSep_congr fun c _ => ?_
  rw [BI.bigSep_univ_sum]
  refine congrArg₂ (fun a b : sProp 𝕄 => iprop(a ∗ b)) ?_ ?_
  · exact bigSep_univ_eq_bigSepL [false, true] (by decide) (by decide) _
  · show (bigSep Finset.univ fun x : Fin 5 × Fin 16 => (tok c x.1 x.2 : sProp 𝕄)) = _
    rw [by_chunk, bigSep_sep', bigSep_sep', bigSep_sep', bigSep_sep']

/-- Handing each right to the device that uses it. -/
theorem own_use : (bigSep Finset.univ fun c : Dev nD => (own c : sProp 𝕄)) = bigSep Finset.univ fun c : Dev nD => use c := by
  simp only [bigSep_sep']
  rw [bigSep_univ_equiv ypE (fun c : Dev nD => (dutyTok ER (barCell c) 0 false : sProp 𝕄)),
    bigSep_univ_equiv xpE (fun c : Dev nD => (dutyTok ER (barCell c) 0 true : sProp 𝕄)),
    bigSep_univ_equiv ypE (fun c : Dev nD => (rts 1 c : sProp 𝕄)), bigSep_univ_equiv xpE (fun c : Dev nD => (rts 3 c : sProp 𝕄))]
  rfl

/-! ## What each device may count on at the start -/

/-- Nothing of the parts is owed at any other counter. -/
theorem OY_zero {d : Dev nD} {g : GSem nD τ sig} (h : ∀ k, g ≠ cell (yp d) 1 k) : OY d 0 g () = 0 := by
  by_contra hn
  obtain ⟨k, -, e⟩ := OY_pos (Nat.pos_of_ne_zero hn)
  exact h k e
/-- Nothing of the finished chunks is owed at any other counter. -/
theorem OX_zero {d : Dev nD} {g : GSem nD τ sig} (h : ∀ k, g ≠ cell (xp d) 3 k) : OX d 0 g () = 0 := by
  by_contra hn
  obtain ⟨k, e⟩ := OX_pos (Nat.pos_of_ne_zero hn)
  exact h k e

/-- A sum of payments to different counters, read at one of them, is one payment. -/
theorem sum_one (S : Finset (Fin 16)) (f : Fin 16 → GSem nD τ sig) (hf : Function.Injective f) (k : Fin 16) (hk : k ∈ S) :
    (∑ l ∈ S, (tallyAt (f l) () N : CellTallies nD τ sig Unit)) (f k) () = N := by
  rw [Finset.sum_apply, Finsupp.finset_sum_apply, Finset.sum_eq_single k]
  · rw [tallyAt_apply, if_pos ⟨rfl, rfl⟩]
  · intro l _ hl; rw [tallyAt_apply, if_neg fun h => hl (hf h.1.symm)]
  · intro h; exact absurd hk h

/-- A part's arrival is owed by the row neighbour alone. -/
theorem owed_at1 (d c : Dev nD) (k : Fin 16) : O₀ d (cell c 1 k) () = if d = yp c then N else 0 := by
  unfold O₀
  simp only [Pi.add_apply, Finsupp.add_apply]
  rw [OX_zero fun l h => absurd (cell_inj h).2.1 (by decide), tallyAt_ne_cell (bar_ne_cell _ _ _ _).symm, tallyAt_ne_cell (bar_ne_cell _ _ _ _).symm]
  by_cases h : d = yp c
  · subst h
    rw [if_pos rfl]
    have := sum_one (Finset.univ.filter fun l : Fin 16 => 0 ≤ l.val) (fun l => cell (yp (yp c)) 1 l) (fun _ _ e => (cell_inj e).2.2) k (by simp)
    simp only [yp_yp] at this
    unfold OY
    simp only [yp_yp]
    rw [this]; rfl
  · rw [if_neg h, OY_zero fun l e => h (by rw [(cell_inj e).1, yp_yp])]; rfl
/-- A finished chunk's arrival is owed by the column neighbour alone. -/
theorem owed_at3 (d c : Dev nD) (k : Fin 16) : O₀ d (cell c 3 k) () = if d = xp c then N else 0 := by
  unfold O₀
  simp only [Pi.add_apply, Finsupp.add_apply]
  rw [OY_zero fun l h => absurd (cell_inj h).2.1 (by decide), tallyAt_ne_cell (bar_ne_cell _ _ _ _).symm, tallyAt_ne_cell (bar_ne_cell _ _ _ _).symm]
  by_cases h : d = xp c
  · subst h
    rw [if_pos rfl]
    have := sum_one (Finset.univ.filter fun l : Fin 16 => 0 ≤ l.val + 1) (fun l => cell (xp (xp c)) 3 l) (fun _ _ e => (cell_inj e).2.2) k (by simp)
    simp only [xp_xp] at this
    unfold OX
    simp only [xp_xp]
    rw [this]; rfl
  · rw [if_neg h, OX_zero fun l e => h (by rw [(cell_inj e).1, xp_xp])]; rfl
/-- A barrier is owed one unit by each neighbour. -/
theorem owed_bar (d c : Dev nD) : O₀ d (barCell c) () = (if d = xp c then 1 else 0) + if d = yp c then 1 else 0 := by
  unfold O₀
  simp only [Pi.add_apply, Finsupp.add_apply]
  rw [OY_zero fun l => bar_ne_cell _ _ _ _, OX_zero fun l => bar_ne_cell _ _ _ _, tallyAt_apply, tallyAt_apply]
  have hb (q : Dev nD → Dev nD) (hq : ∀ c, q (q c) = c) : (barCell c = barCell (q d) ∧ () = ()) ↔ d = q c :=
    ⟨fun h => by have e : c = q d := congrArg (fun g : GSem nD τ sig => g.1.1) h.1; rw [e, hq], fun h => ⟨by rw [h, hq], rfl⟩⟩
  rw [Nat.zero_add]
  rw [if_congr (hb xp xp_xp) rfl rfl, if_congr (hb yp yp_yp) rfl rfl]

/-- The credit a counter starts with is what all devices owe it. -/
theorem credit_is (g : GSem nD τ sig) (n : ℕ) (h : ∑ d, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

def ends : Unit ⊕ (Fin 16 ⊕ Fin 16) ↪ SemLoc sig :=
  ⟨Sum.elim (fun _ => .reg barS) (Sum.elim (fun k => .dma (semA 1 k)) fun k => .dma (semA 3 k)), by decide⟩

/-- The credit that a device gets at the launch: two units at its barrier and every arrival. -/
theorem credits (c : Dev nD) : (Pipeline.launchCred O₀ c : sProp 𝕄)
    ⊢ iprop(cred (tallyAt (barCell c) () 2) ∗ bigSep Finset.univ (cr c 1) ∗ bigSep Finset.univ (cr c 3)) := by
  unfold Pipeline.launchCred
  suffices e : (bigSep (Finset.univ.map ends) fun sm => (cred (tallyOn ((c.tc : Thread nD τ), sm)
        (launchCredit (Pipeline.owing O₀) 0 ((c.tc : Thread nD τ), sm))) : sProp 𝕄))
      = iprop(cred (tallyAt (barCell c) () 2) ∗ bigSep Finset.univ (cr c 1) ∗ bigSep Finset.univ (cr c 3)) from
    by rw [← e]; exact BI.bigSep_subset (Finset.subset_univ _)
  rw [bigSep_map, BI.bigSep_univ_sum, BI.bigSep_univ_sum]
  refine congrArg₂ (fun a b : sProp 𝕄 => iprop(a ∗ b)) ?_ (congrArg₂ (fun a b : sProp 𝕄 => iprop(a ∗ b)) ?_ ?_)
  · rw [show (Finset.univ : Finset Unit) = {()} from rfl, bigSep_singleton]
    refine congrArg cred (credit_is (barCell c) 2 ?_)
    simp only [owed_bar]; rw [Finset.sum_add_distrib, Finset.sum_ite_eq', Finset.sum_ite_eq', if_pos (Finset.mem_univ _), if_pos (Finset.mem_univ _)]
  · refine bigSep_congr fun k _ => congrArg cred (credit_is (cell c 1 k) N ?_)
    simp only [owed_at1]; rw [Finset.sum_ite_eq', if_pos (Finset.mem_univ _)]
  · refine bigSep_congr fun k _ => congrArg cred (credit_is (cell c 3 k) N ?_)
    simp only [owed_at3]; rw [Finset.sum_ite_eq', if_pos (Finset.mem_univ _)]

/-! ## Dealing it out -/

/-- What every device may consult. -/
def records (K : GSem nD τ sig → ℕ) : sProp 𝕄 :=
  iprop(invs (prt m) K ∗ bigSep Finset.univ fun c : Dev nD => reached ER (barCell c) 0)
instance records_persistent (K : GSem nD τ sig → ℕ) : BI.Persistent (records m K) := by unfold records; infer_instance

/-- What device `c` holds for itself. -/
def mine (c : Dev nD) : sProp 𝕄 := iprop(atPos ER (barCell c) 0 ∅ 0 ∗ bigSep Finset.univ (Shut (F := F) c) ∗ use c)
def given (c : Dev nD) : sProp 𝕄 := iprop(cred (tallyAt (barCell c) () 2) ∗ bigSep Finset.univ (cr (F := F) c 1) ∗ bigSep Finset.univ (cr (F := F) c 3))

/-- The rights and credits of a device, listed chunk by chunk. -/
theorem Tok_of (c : Dev nD) : iprop((rts 0 c ∗ rts 1 (yp c) ∗ rts 2 c ∗ rts 3 (xp c) ∗ rts 4 c) ∗ bigSep Finset.univ (cr (F := F) c 1) ∗ bigSep Finset.univ (cr (F := F) c 3))
    ⊢ bigSep Finset.univ (Tok (F := F) c) := by
  rw [show (Tok (F := F) c) = fun k => iprop(tok c 0 k ∗ tok (yp c) 1 k ∗ tok c 2 k ∗ tok (xp c) 3 k ∗ tok c 4 k ∗ cr c 1 k ∗ cr c 3 k) from rfl]
  simp only [bigSep_sep']
  iintro ⟨⟨H0, H1, H2, H3, H4⟩, H5, H6⟩
  isplitl [H0]; · iexact H0
  isplitl [H1]; · iexact H1
  isplitl [H2]; · iexact H2
  isplitl [H3]; · iexact H3
  isplitl [H4]; · iexact H4
  isplitl [H5] <;> iassumption

/-- The record that every barrier has begun includes each one's. -/
theorem reach (c : Dev nD) : (bigSep Finset.univ fun c : Dev nD => (reached ER (barCell c) 0 : sProp 𝕄)) ⊢ reached ER (barCell c) 0 :=
  bigSep_elim (Finset.mem_univ c)

/-- What a device holds for itself, with the common records, is what it brings to the call. -/
theorem Tk_of (K : GSem nD τ sig → ℕ) (c : Dev nD) : iprop(records m K ∗ (mine c ∗ given c)) ⊢ Tk m c := by
  unfold records mine given Tk Bar
  iintro ⟨⟨#Hi, #Hr⟩, ⟨Hat, HS, ⟨Hb1, Hb2⟩, HT⟩, Hc, HC⟩
  iexists K
  isplitr; · iexact Hi
  isplitl [Hat Hb1 Hb2 Hc]
  · isplitl [Hat]; · iexact Hat
    isplitl [Hc]; · iexact Hc
    isplitl [Hb1]; · iexact Hb1
    isplitr; · iapply (reach (F := F) (yp c)); iexact Hr
    isplitl [Hb2]; · iexact Hb2
    iapply (reach (F := F) (xp c)); iexact Hr
  isplitl [HT HC]
  · iapply (Tok_of (F := F) c)
    isplitl [HT] <;> iassumption
  iexact HS

/-- Beside the buffers, up to the call. -/
def R (c : Dev nD) : sProp 𝕄 := iprop(Tk m c ∗ (∃ r, prngReg c r) ∗ ow c (O₀ c))
abbrev E : Fin 2 → Dev nD → sProp 𝕄 := fun _ => R m
abbrev T₀ (c : Dev nD) : sProp 𝕄 := iprop(StableHlo.held (c : Thread nD τ) (Pipeline.ucRefs τ sig) (V0 m c) ∗ R m c)
abbrev Tₙ (c : Dev nD) : sProp 𝕄 := iprop(StableHlo.held (c : Thread nD τ) Sr (after m c) ∗ semVal (barCell c) 0)

/-- After the host operations the call's entry condition holds. -/
theorem pre_of (c : Dev nD) : iprop(StableHlo.held (c : Thread nD τ) (Pipeline.ucRefs τ sig) (V1 m c) ∗ R m c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) Sr (V1 m c) ∗ emp) ∗ Tk m c ∗ ∃ Wd, owes (c : Thread nD τ) (0 + O₀ c) Wd)
  rw [StableHlo.held_sub_split (c : Thread nD τ) (Pipeline.arrRefs_sub_ucRefs spec0 (by decide)) (V1 m c), zero_add]
  unfold R ow Sr
  iintro ⟨⟨Ha, Hs⟩, HT, Hp, Ho⟩
  isplitl [Ha]; · iexact Ha
  isplitl [Hp]; · iexact Hp
  isplitl [Hs]
  · isplitl [Hs]; · iexact Hs
    iempintro
  isplitl [HT] <;> iassumption

/-- The call's exit condition gives what the end of the program needs. -/
theorem post_of (c : Dev nD) : (reg m).post c ⊢ iprop(Tₙ m c ∗ ∃ W, owes (c : Thread nD τ) (0 : CellTallies nD τ sig Unit) W) := by
  show iprop(StableHlo.held (c.tc : Thread nD τ) (Pipeline.arrRefs (τ := τ) spec0) (after m c) ∗ (∃ r, prngReg c r)
    ∗ (StableHlo.held (c.tc : Thread nD τ) Sr (after m c) ∗ emp) ∗ Yk c ∗ ∃ Wd, owes (c : Thread nD τ) (0 : CellTallies nD τ sig Unit) Wd) ⊢ _
  unfold Yk
  iintro ⟨-, -, ⟨Hs, -⟩, Hb, Ho⟩
  isplitr [Ho]
  · isplitl [Hs] <;> iassumption
  iexact Ho

/-! ## The start -/

def u₀ : UU :=
  (initOf (Pipeline.cells (Pipeline.pin (pcfgs (F := F)) adm) cellOf_inj) (Pipeline.launchToks (Pipeline.pin (pcfgs (F := F)) adm) cellOf_inj),
    launchOf bars cells toks)
/-- The protocol's part of the start is kept with device 0 until it is dealt out. -/
def G (c : Dev nD) : sProp 𝕄 := if c = 0 then BI.own (ER (launchOf bars cells toks)) else iprop(emp)
/-- The start of the protocol, kept with one device, is all of it. -/
theorem G_all : bigSep Finset.univ (G (F := F)) = BI.own (ER (launchOf bars cells toks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- The only counter that outlives the call is the barrier. -/
theorem plain_sems (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]
/-- A counter that outlives the call is the barrier. -/
theorem plain_is : ∀ sm : SemLoc sig, sm.isScoped .tc = false → sm = .reg barS := by decide

/-- What is not the protocol's on a device at the start. -/
def kept (c : Dev nD) : sProp 𝕄 :=
  iprop(StableHlo.held (c : Thread nD τ) (Pipeline.ucRefs τ sig) (V0 m c) ∗ (∃ r, prngReg c r) ∗ ow c (O₀ c) ∗ given c)

/-- A device's state before its first operation, from the common records and what it holds. -/
theorem T₀_of (K : GSem nD τ sig → ℕ) (c : Dev nD) : iprop(records m K ∗ (mine c ∗ kept m c)) ⊢ T₀ m c := by
  unfold kept T₀ R
  iintro ⟨#HR, Hm, Hh, Hp, Ho, Hg⟩
  isplitl [Hh]; · iexact Hh
  isplitl [Hm Hg]
  · iapply (Tk_of m K c)
    isplitr; · iexact HR
    isplitl [Hm] <;> iassumption
  isplitl [Hp] <;> iassumption

/-- What a device is launched with, sorted. -/
theorem start_one (c : Dev nD) :
    iprop(unscopedBufs c (fun b => m ((c : Thread nD τ).loc b)) ∗ unscopedSems0 c ∗ owes (c : Thread nD τ) (O₀ c) ∅ ∗ Pipeline.launchCred O₀ c
        ∗ prngReg c (ρ c) ∗ G c)
      ⊢ (iprop(kept m c ∗ (semVal (barCell c) 0 ∗ G c)) : sProp 𝕄) := by
  rw [show (unscopedBufs c (fun b => m ((c : Thread nD τ).loc b)) : sProp 𝕄) = StableHlo.held (c : Thread nD τ) (Pipeline.ucRefs τ sig) (V0 m c) from
    Pipeline.unscopedBufs_held (Ix := Unit) (Name := ℕ) (U := UU) (Lvl := ℕ) c (V0 m c), plain_sems]
  unfold kept given ow
  iintro ⟨Hh, Hs, Ho, Hc, Hp, HG⟩
  ihave Hc := (credits (F := F) c) $$ Hc
  isplitr [Hs HG]
  · isplitl [Hh]; · iexact Hh
    isplitl [Hp]; · iexists (ρ c); iexact Hp
    isplitl [Ho]; · iexists ∅; iexact Ho
    iexact Hc
  isplitl [Hs] <;> iassumption

/-- The same for all devices. -/
theorem start_all :
    (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ G c))
      ⊢ (iprop(bigSep Finset.univ (kept m) ∗ bigSep bars (fun g => semVal g 0) ∗ BI.own (ER (launchOf bars cells toks))) : sProp 𝕄) := by
  refine (bigSep_mono fun c _ => start_one m ρ c).trans ?_
  rw [bigSep_sep', bigSep_sep', ← G_all, bigSep_map]
  exact BI.Entails.refl _

/-- The rules of all barriers and all copies' counters are the rules of every counter. -/
theorem invs_of (K : GSem nD τ sig → ℕ) : (bigSep (bars ∪ cells) fun g => (cellInv ER (Rd (prt m)) (K g) g : sProp 𝕄)) = invs (prt m) K := by
  rw [BI.bigSep_union bars_cells, bigSep_map, bigSep_map]; rfl
/-- The rules and the barriers' beginnings are what every device may consult. -/
theorem records_of (K : GSem nD τ sig → ℕ) :
    iprop((bigSep (bars ∪ cells) fun g => (cellInv ER (Rd (prt m)) (K g) g : sProp 𝕄)) ∗ bigSep bars fun g => (reached ER g 0 : sProp 𝕄)) ⊢ records m K := by
  rw [invs_of, bigSep_map]; exact BI.Entails.refl _
/-- The positions and rights, dealt to the devices. -/
theorem mine_of : iprop((bigSep bars fun g => (atPos ER g 0 ∅ 0 : sProp 𝕄)) ∗ (bigSep cells fun g => (openTok ER g : sProp 𝕄))
    ∗ bigSep toks fun x => (dutyTok ER x.1 x.2.1 x.2.2 : sProp 𝕄)) ⊢ bigSep Finset.univ (mine (F := F)) := by
  rw [toks_own, own_use, bigSep_map, bigSep_map, bigSep_univ_prod,
    show mine (F := F) = fun c => iprop(atPos ER (barCell c) 0 ∅ 0 ∗ bigSep Finset.univ (Shut (F := F) c) ∗ use c) from rfl]
  simp only [bigSep_sep']
  exact BI.Entails.refl _
/-- Every device's state before its first operation, from the common records and what the devices hold. -/
theorem T₀_all (K : GSem nD τ sig → ℕ) :
    iprop(records m K ∗ (bigSep Finset.univ (mine (F := F)) ∗ bigSep Finset.univ (kept m))) ⊢ bigSep Finset.univ (T₀ m) := by
  rw [← bigSep_sep']
  exact bigSep_with_persistent (R := records m K) (Φ := fun c => iprop(mine c ∗ kept m c)) fun c _ => T₀_of m K c

/-- The launch, with the levels fixed, reaches every device's first state. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H := (start_all m ρ) $$ H
  icases H with ⟨Hk, Hv, Hu⟩
  imod (Rounds.fund_launch ER (Rd (prt m)) bars_cells (fun _ _ h => h) toks) $$ [Hv Hu] with ⟨%K, -, Hi, Hr, Hat, Ho, Ht⟩
  · isplitl [Hv] <;> iassumption
  imodintro
  iapply (T₀_all m K)
  isplitl [Hi Hr]
  · iapply (records_of m K)
    isplitl [Hi] <;> iassumption
  isplitr [Hk]
  · iapply (mine_of (F := F))
    isplitl [Hat]; · iexact Hat
    isplitl [Ho] <;> iassumption
  iexact Hk

/-! ## The run -/

/-- The result is kept to the end. -/
theorem mem_Sr_out : Proc.devRef .tc main_v19 ∈ Sr := by decide
/-- The ids are kept to the end. -/
theorem mem_Sr_arg0 : Proc.devRef .tc main_arg0 ∈ Sr := by decide
/-- The table is kept to the end. -/
theorem mem_Sr_arg1 : Proc.devRef .tc main_arg1 ∈ Sr := by decide

/-- The ids are unchanged at the end. -/
theorem after_arg0 (c : Dev nD) : after m c (Proc.devRef .tc main_arg0) = m ((c : Thread nD τ).loc main_arg0) :=
  (after_ne m c _ (by decide)).trans ((V1_of m c main_arg0 (by decide)).trans rfl)
/-- The table is unchanged at the end. -/
theorem after_arg1 (c : Dev nD) : after m c (Proc.devRef .tc main_arg1) = m ((c : Thread nD τ).loc main_arg1) :=
  (after_ne m c _ (by decide)).trans ((V1_of m c main_arg1 (by decide)).trans rfl)

set_option backward.isDefEq.respectTransparency.types false in
/-- From any memory with the counters at zero every run ends, with the arguments as they were, the result as `result` says, and
    the counters at zero. -/
theorem run_main : θ_run defs (onTc (τ := τ) (main (F := F))) ⟨m, fun _ => 0, ρ⟩ (fun r =>
    (∀ c : Dev nD, r.2.mem ((c.tc : Thread nD τ).loc main_v19) = result (prt m) c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine Pipeline.θ_run_regions_kit_dev_sems (pcfgs (F := F)) adm (pdats m) () cellOf_inj EP defs₀ 𝒱₀ L lv m ρ main
    (segs m 𝒱₀ L lv (E m) () (pdats m) (reg m))
    (fun c Q => by
      rewrite [main_chain c, Pipeline.Seg.run_eq_chain,
        show (segs m 𝒱₀ L lv (E m) () (pdats m) (reg m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O₀ L_of_ne G (u₀ (F := F)) ?_
    (T₀ := T₀ m) (Tₙ := Tₙ m) (hch := fun c => ⟨.rfl, pre_of m c, post_of m c⟩) (hinit := init m ρ)
    (QY := fun c s => (s.mem ((c.tc : Thread nD τ).loc main_v19) = result (prt m) c
      ∧ s.mem ((c.tc : Thread nD τ).loc main_arg0) = m ((c.tc : Thread nD τ).loc main_arg0)
      ∧ s.mem ((c.tc : Thread nD τ).loc main_arg1) = m ((c.tc : Thread nD τ).loc main_arg1)) ∧ s.sem (barCell c) = 0)
    (hfin := fun c s' => ?_) (hQ := fun s h hs => ⟨fun c => (h c).1, sem_eq_zero hs fun c sm hsm => by
      obtain rfl := plain_is sm hsm
      exact (h c).2⟩)
  · unfold u₀
    iintro Hu
    ihave H := (ownU_pair _ _) $$ Hu
    icases H with ⟨HP, HX⟩
    imodintro
    isplitl [HP]; · iexact HP
    rw [G_all]; iexact HX
  · unfold Tₙ StableHlo.held
    iintro ⟨⟨Hh, Hb⟩, HSI⟩
    icombine HSI Hb gives %hb
    ihave Hr := (pointsTo_read_all Sr (fun b => ((c : Thread nD τ).1, b)) (after m c) s') $$ [Hh HSI]
    · isplitl [Hh] <;> iassumption
    icases Hr with ⟨%h, HSI⟩
    imodintro
    isplitr
    · ipureintro
      exact ⟨⟨(h _ mem_Sr_out).trans (after_out m c), (h _ mem_Sr_arg0).trans (after_arg0 m c), (h _ mem_Sr_arg1).trans (after_arg1 m c)⟩, by simpa using hb⟩
    · iexact HSI

end Cert.KernelIdeal.Talk
-- ==== Proof.Values.lean ====
/-
  What the numbers are, floats being exact: a chunk's product of an indicator matrix with the table picks rows, the two devices of a
  row of the mesh hold complementary rows, so that their sum is the row looked up, and that is what the reference gathers.
-/
module

public import proofs.«01_k».proof.Proof.Region
public import proofs.«01_k».proof.Proof.Gen.Pre_ids_in_range_KernelIdeal
public import proofs.«01_k».proof.Proof.Gen.ReferenceIdeal
public import Idealize.ShloMosaic.Lib.Pointwise
public import Idealize.ShloMosaic.Lib.ReduceAll
public import Idealize.ShloMosaic.Lib.StableHlo.Predicate
public import Idealize.ShloMosaic.Lib.Routing.Ops
public import Idealize.ShloMosaic.Lib.Layout

@[expose] public section

noncomputable section

namespace Cert.KernelIdeal.Talk

open Idealize.ShloMosaic Idealize.ShloMosaic.TcCoe Idealize.SL.Sem
open Idealize.ShloMosaic.StableHlo.Predicate (toInt_eq_toNat_of_lt)
open Cert.KernelIdeal Cert.KernelIdeal.Gen

/-! ## One chunk -/

/-- The indicator of two words being equal, as a float: one or zero. -/
theorem bit_float (a b : BitVec 32) :
    FloatOps.sitofp (F := Ideal) .f32 (BitVec.setWidth 32 (IntOp.cmpi .eq a b)) = if a = b then (1 : EReal) else 0 := by
  by_cases h : a = b
  · rw [if_pos h, StableHlo.Predicate.cmpi_eq_iff.mpr h]
    show ((((BitVec.setWidth 32 (1#1)).toInt : ℝ)) : EReal) = 1
    norm_num
  · rw [if_neg h, ValueIdx.eq_zero_of_ne_one (fun e => h (StableHlo.Predicate.cmpi_eq_iff.mp e))]
    show ((((BitVec.setWidth 32 (0#1)).toInt : ℝ)) : EReal) = 0
    norm_num

/-- Summing against an indicator over the table's rows picks the one row named, or nothing when none is. -/
theorem pick (w : BitVec 32) (f : Fin 8192 → EReal) :
    ∑ x : Fin 8192, (if w = BitVec.ofNat 32 x.val then (1 : EReal) else 0) * f x = if h : w.toNat < 8192 then f ⟨w.toNat, h⟩ else 0 := by
  have key (x : Fin 8192) : w = BitVec.ofNat 32 x.val ↔ w.toNat = x.val := by
    rw [← BitVec.toNat_inj, BitVec.toNat_ofNat, Nat.mod_eq_of_lt (by omega)]
  split
  · next h =>
    rw [Finset.sum_eq_single ⟨w.toNat, h⟩ (fun x _ hx => by
      rw [if_neg fun e => hx (Fin.ext ((key x).mp e).symm), zero_mul]) (fun hx => absurd (Finset.mem_univ _) hx),
      if_pos ((key _).mpr rfl), one_mul]
  · next h =>
    refine Finset.sum_eq_zero fun x _ => ?_
    rw [if_neg fun e => h ((key x).mp e ▸ x.isLt), zero_mul]

/-- A chunk's product at a place: the table's row the id there names, or zero when the table has no such row. -/
theorem pay1_at (a : Vec Ideal S128x1 .i32) (t : Vec Ideal S8192x2048 .bf16) (j : S128x2048.Idx) :
    flat (k0_pay1 (F := Ideal) a t) j
      = if h : (a (ix2 (j 0) 0)).toNat < 8192 then t (ix2 ⟨(a (ix2 (j 0) 0)).toNat, h⟩ (j 1)) else (0 : EReal) := by
  unfold flat k0_pay1
  pointwise
  rw [← pick (a (ix2 (j 0) 0)) fun x => t (ix2 x (j 1))]
  exact Finset.sum_congr rfl fun x _ => congrArg (· * _) (bit_float _ _)

/-- Two chunks added at a place. -/
theorem pay2_at (v : Vec Ideal S1x128x2048 .f32) (w : Vec Ideal S128x2048 .f32) (j : S128x2048.Idx) :
    k0_pay2 (F := Ideal) v w j = (flat v j + w j : EReal) := by
  unfold flat k0_pay2
  pointwise

/-! ## The call's two operands -/

section Operands

variable (m : (ℓ : Loc nD τ sig) → Buf (Elt Ideal) ℓ) (c : Dev nD)

/-- The table a device passes is its own argument. -/
theorem tbl_at : tbl m c = m ((c.tc : Thread nD τ).loc main_arg1) := by
  show StableHlo.after (hostOps0 c) (V0 m c) main_v18 = _
  after_results <;> rfl

/-- Which half of the ids a device takes, as the program computes it. -/
def at2048 : IVec S_ 32 :=
  muli (Host.remui (Host.divui (constantI S_ 32 (Dev.word c)) (constantI S_ 32 2#32)) (constantI S_ 32 2#32)) (constantI S_ 32 2048#32)
/-- How many table rows come before a device's own, as the program computes it. -/
def at8192 : IVec S_ 32 :=
  muli (Host.remui (Host.divui (constantI S_ 32 (Dev.word c)) (constantI S_ 32 1#32)) (constantI S_ 32 2#32)) (constantI S_ 32 8192#32)
/-- The first id a device takes. -/
def from_ : IVec S_ 32 := select (cmpi .slt (at2048 c) (constantI S_ 32 0#32)) (addi (at2048 c) (constantI S_ 32 4096#32)) (at2048 c)

/-- The position of a device's first id is 2048 times its row of the mesh. -/
theorem from_eq (i : S_.Idx) : from_ c i = BitVec.ofNat 32 (2048 * (c.val / 2)) := by
  obtain rfl : i = fun a => a.elim0 := funext fun a => a.elim0
  revert c; decide
/-- The rows before a device's own are 8192 times its column of the mesh. -/
theorem at8192_eq (i : S_.Idx) : at8192 c i = BitVec.ofNat 32 (8192 * (c.val % 2)) := by
  obtain rfl : i = fun a => a.elim0 := funext fun a => a.elim0
  revert c; decide

/-- The device's own copy of the ids. -/
def tokIds : IVec S4096 32 := m ((c.tc : Thread nD τ).loc main_arg0)

/-- The ids a device passes, as one expression of its argument. -/
theorem ids_eq : ids m c = shapeCast S2048x1
    (subi (Host.dynamicSlice S2048 (tokIds m c) (fun _ => (from_ c (Shape.Idx.first h_S_)).toInt) sliceFits_S4096_S2048)
      (broadcastInDim S2048 ![] bcast_S_S2048 (at8192 c))) shapeCasts_S2048_S2048x1 := by
  show StableHlo.after (hostOps0 c) (V0 m c) main_v17 = _
  after_results
  refine congrArg (fun z : Fin 1 → ℤ => shapeCast S2048x1 (subi (Host.dynamicSlice S2048 (tokIds m c) z sliceFits_S4096_S2048)
      (broadcastInDim S2048 ![] bcast_S_S2048 (at8192 c))) shapeCasts_S2048_S2048x1) (funext fun k => ?_)
  obtain rfl : k = 0 := Subsingleton.elim _ _
  refine congrArg BitVec.toInt (congrFun (?_ : _ = from_ c) (Shape.Idx.first h_S_))
  show StableHlo.after [] (HloOp.result _ _) (Proc.tc.devRef main_v12) = _
  after_results
  rfl

/-- Entry `n` of what a device passes: the id at its place in the device's half, less the rows before the device's own. -/
theorem ids_at (n : Fin 2048) (r : Fin 4096) (hr : r.val = 2048 * (c.val / 2) + n.val) :
    ids m c (ix2 n 0) = tokIds m c (ix1 r) - BitVec.ofNat 32 (8192 * (c.val % 2)) := by
  have hc : c.val < 4 := c.isLt
  rw [ids_eq]
  simp only [from_eq]
  pointwise
  simp only [at8192_eq]
  refine congrArg (fun z => tokIds m c (ix1 z) - _) (Fin.ext ?_)
  show Host.clampedStart S4096 S2048 _ _ 0 + n.val = r.val
  have e : (BitVec.ofNat 32 (2048 * (c.val / 2))).toInt = ((2048 * (c.val / 2) : ℕ) : ℤ) := StableHlo.Predicate.toInt_ofNat_small _ (by omega)
  rw [hr]
  unfold Host.clampedStart
  rw [e, max_eq_left (Int.natCast_nonneg _), min_eq_left (by
    show ((2048 * (c.val / 2) : ℕ) : ℤ) ≤ ((4096 - 2048 : ℕ) : ℤ); omega), Int.toNat_natCast]

/-- A device's place along the axis the table is cut on. -/
theorem lin_y : ∀ c : Dev nD, Layout.meshLin [2, 2] c.val [1] = c.val % 2 := by decide
/-- An axis that is not cut has one block. -/
theorem lin_none : ∀ c : Dev nD, Layout.meshLin [2, 2] c.val [] = 0 := by decide

/-- A part of a device at a place: the row of the whole table `E` that the id names, if it lies among the device's rows, and zero if not. -/
theorem part_at (E : (⟨2, ![16384, 2048]⟩ : Shape).Idx → EReal)
    (hE : m ((c.tc : Thread nD τ).loc main_arg1) = Layout.blockN ⟨2, ![8192, 2048]⟩ ⟨2, ![16384, 2048]⟩ (Layout.meshBlock [2, 2] ![[1], []] c) E)
    (k : Fin 16) (j : S128x2048.Idx) (r : Fin 4096) (hr : r.val = 2048 * (c.val / 2) + 128 * k.val + (j 0).val)
    (row : Fin 16384) (hrow : tokIds m c (ix1 r) = BitVec.ofNat 32 row.val) :
    flat (prt m c k) j = if row.val / 8192 = c.val % 2 then E (ix2 row (j 1)) else 0 := by
  have hj : (j 0).val < 128 := (j 0).isLt
  have hc : c.val < 4 := c.isLt
  unfold prt
  rw [pay1_at]
  have ei : (Rect.unit (s := S2048x1) ![128 * k.val, 0] S128x1.size (ids_inb k)).idx (ix2 (j 0) 0) = ix2 ⟨128 * k.val + (j 0).val, by omega⟩ 0 :=
    funext (Fin.forall_fin_two.mpr ⟨Fin.ext (by show 128 * k.val + 1 * (j 0).val = 128 * k.val + (j 0).val; rw [one_mul]), rfl⟩)
  have ew : ids m c ((Rect.unit (s := S2048x1) ![128 * k.val, 0] S128x1.size (ids_inb k)).idx (ix2 (j 0) 0))
      = BitVec.ofNat 32 row.val - BitVec.ofNat 32 (8192 * (c.val % 2)) := by
    rw [ei, ids_at m c _ r (by rw [hr]; exact Nat.add_assoc _ _ _), hrow]
  have et (x : S8192x2048.Idx) : tbl m c ((Rect.unit (s := S8192x2048) ![0, 0] S8192x2048.size tbl_inb).idx x)
      = E (ix2 ⟨8192 * (c.val % 2) + (x 0).val, by have : (x 0).val < 8192 := (x 0).isLt; omega⟩ (x 1)) := by
    rw [tbl_at, hE]
    refine congrArg E (funext (Fin.forall_fin_two.mpr ⟨Fin.ext ?_, Fin.ext ?_⟩))
    · show Layout.meshLin [2, 2] c.val [1] * 8192 + (0 + 1 * (x 0).val) = 8192 * (c.val % 2) + (x 0).val
      rw [lin_y c]; omega
    · show Layout.meshLin [2, 2] c.val [] * 2048 + (0 + 1 * (x 1).val) = (x 1).val
      rw [lin_none c]; omega
  have hw : (BitVec.ofNat 32 row.val - BitVec.ofNat 32 (8192 * (c.val % 2))).toNat = (row.val + (2 ^ 32 - 8192 * (c.val % 2))) % 2 ^ 32 := by
    rw [BitVec.toNat_sub, BitVec.toNat_ofNat, BitVec.toNat_ofNat]; omega
  simp only [ew, et]
  by_cases h : row.val / 8192 = c.val % 2
  · rw [if_pos h, dif_pos (by rw [hw]; omega)]
    refine congrArg E (funext (Fin.forall_fin_two.mpr ⟨Fin.ext ?_, rfl⟩))
    show 8192 * (c.val % 2) + (BitVec.ofNat 32 row.val - BitVec.ofNat 32 (8192 * (c.val % 2))).toNat = row.val
    rw [hw]; omega
  · rw [if_neg h, dif_neg (by rw [hw]; omega)]

end Operands

/-! ## The whole result -/

section Whole

variable (m : (ℓ : Loc nD τ sig) → Buf (Elt Ideal) ℓ) (I : IVec (⟨1, ![4096]⟩ : Shape) 32) (E : (⟨2, ![16384, 2048]⟩ : Shape).Idx → EReal)
  (hI : ∀ c : Dev nD, tokIds m c = I)
  (hE : ∀ c : Dev nD, m ((c.tc : Thread nD τ).loc main_arg1) = Layout.blockN ⟨2, ![8192, 2048]⟩ ⟨2, ![16384, 2048]⟩ (Layout.meshBlock [2, 2] ![[1], []] c) E)
  (row : Fin 4096 → Fin 16384) (hrow : ∀ r, I (ix1 r) = BitVec.ofNat 32 (row r).val)

/-- The row neighbour works on the same half of the ids. -/
theorem yp_row : ∀ c : Dev nD, (yp c).val / 2 = c.val / 2 := by decide
/-- The row neighbour holds the other half of the table. -/
theorem yp_col : ∀ c : Dev nD, (yp c).val % 2 = 1 - c.val % 2 := by decide
/-- Half `h` of the result comes from a device of row `h`. -/
theorem half_row : ∀ (c : Dev nD) (h : Fin 2), (half c h).val / 2 = h.val := by decide

include hI hE hrow in
/-- A device's chunk and its neighbour's add up to the row looked up, whichever of the two has it. -/
theorem sum_at (c : Dev nD) (k : Fin 16) (j : S128x2048.Idx) (r : Fin 4096) (hr : r.val = 2048 * (c.val / 2) + 128 * k.val + (j 0).val) :
    sm (prt m) c k j = E (ix2 (row r) (j 1)) := by
  have hl : (row r).val < 16384 := (row r).isLt
  unfold sm
  rw [pay2_at, part_at m c E (hE c) k j r hr (row r) (by rw [hI, hrow]),
    part_at m (yp c) E (hE (yp c)) k j r (by rw [yp_row, hr]) (row r) (by rw [hI, hrow]), yp_col]
  by_cases h : (row r).val / 8192 = c.val % 2
  · rw [if_pos h, if_neg (by omega), add_zero]
  · rw [if_neg h, if_pos (by omega), zero_add]

include hI hE hrow in
/-- Every device ends with the rows looked up. -/
theorem result_looked_up (c : Dev nD) : result (prt m) c = fun i : S4096x2048.Idx => E (ix2 (row (i 0)) (i 1)) := by
  funext i
  have h0 : (i 0).val < 4096 := (i 0).isLt
  show resultAt (prt m) c (i 0) (i 1) = _
  unfold resultAt
  rw [sum_at m I E hI hE row hrow _ _ _ (i 0) (by
    rw [half_row]
    show (i 0).val = 2048 * ((i 0).val / 2048) + 128 * ((i 0).val % 2048 / 128) + (i 0).val % 128
    omega)]
  rfl

end Whole

/-! ## The bound on the ids, and the reference -/

/-- Every id names a row of the table. -/
theorem ids_bound (I : IVec (⟨1, ![4096]⟩ : Shape) 32) (e : FVec Ideal (⟨2, ![8192, 2048]⟩ : Shape) .f32)
    (h : Cert.Pre_ids_in_range_KernelIdeal.fn (F := Ideal) I e = fun _ => 1#1) (r : Fin 4096) : (I (ix1 r)).toNat < 16384 := by
  have h1 := congrFun h (fun a => a.elim0)
  unfold Cert.Pre_ids_in_range_KernelIdeal.fn at h1
  haveI : Subsingleton Cert.Pre_ids_in_range_KernelIdeal.S_.Idx := ⟨fun x y => funext fun a => a.elim0⟩
  obtain ⟨a, b⟩ := IntOp.andi_eq_one.mp (Host.reduce_andi_all _ _ _ _ _ h1 (ix1 r))
  have a' : BitVec.ofBool ((0#32).sle (I (ix1 r))) = 1#1 := a
  have b' : BitVec.ofBool ((I (ix1 r)).slt 16384#32) = 1#1 := b
  rw [StableHlo.Predicate.ofBool_eq_one_iff, BitVec.sle, decide_eq_true_eq, show (0#32).toInt = 0 from by decide] at a'
  rw [StableHlo.Predicate.ofBool_eq_one_iff, BitVec.slt, decide_eq_true_eq, show (16384#32).toInt = 16384 from by decide] at b'
  rw [BitVec.toInt_eq_toNat_cond] at a' b'
  have := (I (ix1 r)).isLt
  split at a' <;> omega

/-- The reference's start index for a token is its id when the id is in range. -/
theorem reference_at (I : IVec (⟨1, ![4096]⟩ : Shape) 32) (E : (⟨2, ![16384, 2048]⟩ : Shape).Idx → EReal)
    (row : Fin 4096 → Fin 16384) (hrow : ∀ r, I (ix1 r) = BitVec.ofNat 32 (row r).val) :
    Host.gather Cert.ReferenceIdeal.gather_S16384x2048_S4096x1_S4096x2048_1_0_n_n_0_1_12048 E
      (broadcastInDim Cert.ReferenceIdeal.S4096x1 ![0] Cert.ReferenceIdeal.Facts₀.bcast_S4096_S4096x1_0 (select (cmpi .slt I (broadcastInDim Cert.ReferenceIdeal.S4096 ![] Cert.ReferenceIdeal.Facts₀.bcast_S_S4096 (constantI Cert.ReferenceIdeal.S_ 32 0#32))) (addi I (broadcastInDim Cert.ReferenceIdeal.S4096 ![] Cert.ReferenceIdeal.Facts₀.bcast_S_S4096 (constantI Cert.ReferenceIdeal.S_ 32 16384#32))) I))
      = fun i : S4096x2048.Idx => E (ix2 (row (i 0)) (i 1)) := by
  funext i
  refine (congrArg _ (eq_ix2 i)).trans (Routing.gather_row (nb := 16384) (B := 2048) (n := 4096) _ rfl rfl rfl rfl rfl E _ (i 0) (i 1) (row (i 0)) ?_ (by decide))
  have h0 : (row (i 0)).val < 16384 := (row (i 0)).isLt
  pointwise
  have hv : I (ix1 (i 0)) = BitVec.ofNat 32 (row (i 0)).val := hrow _
  show Scalar.select (IntOp.cmpi .slt (I (ix1 (i 0))) 0#32) _ (I (ix1 (i 0))) = _
  rw [hv]
  have hn : IntOp.cmpi .slt (BitVec.ofNat 32 (row (i 0)).val) 0#32 = 0#1 := ValueIdx.eq_zero_of_ne_one fun e => by
    have := (StableHlo.Predicate.slt_ofNat_iff (row (i 0)).val 0 (by omega) (by omega)).mp e
    omega
  rw [hn, ValueIdx.select_zero]

end Cert.KernelIdeal.Talk

end
-- ==== Proof.lean ====
/-
  The claims, put together: the frames of the kernel at both readings from one run, the frame of the reference, and the equality
  of their results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_ids_in_range_KernelIdeal
public import proofs.«01_k».proof.Proof.Gen.Pre_ids_in_range_ReferenceIdeal
public import proofs.«01_k».proof.Proof.Run
public import proofs.«01_k».proof.Proof.Values

@[expose] public section

noncomputable section

namespace Cert.Proof

open Idealize.ShloMosaic Idealize.ShloMosaic.TcCoe Idealize.SL.Sem

/-- The kernel's run at any reading of floats, as the frame claim words it. -/
theorem frame_of {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (Cert.KernelIdeal.Talk.run_main m ρ)

/-- The kernel body as read at `Bits` and the one read at `Ideal`, taken at the same floats, are one program. -/
theorem defs₀_eq : Cert.Kernel.defs₀ (F := Bits) = Cert.KernelIdeal.defs₀ (F := Bits) := by
  unfold Cert.Kernel.defs₀ Cert.KernelIdeal.defs₀
  congr 1
  funext l x
  match l, x with
  | 0, (t, s) => rfl

/-- The same, of the whole launch. -/
theorem defs_eq : Cert.Kernel.defs (F := Bits) = Cert.KernelIdeal.defs (F := Bits) := by
  unfold Cert.Kernel.defs Cert.KernelIdeal.defs
  rw [defs₀_eq]
  rfl

/-- The kernel at machine floats runs, keeps its arguments and leaves every counter at zero. -/
theorem frame_kernel : Cert.quiescent_Kernel := fun m ρ _ => by
  rw [defs_eq]
  exact (θ_run Cert.KernelIdeal.defs _ _).mono (fun _ h => ⟨fun c => (h.1 c).2, h.2⟩) (Cert.KernelIdeal.Talk.run_main (F := Bits) m ρ)

/-- The same at exact floats. -/
theorem frame_ideal : Cert.quiescent_KernelIdeal := fun m ρ _ => frame_of (F := Ideal) m ρ
/-- The same, stated with the bound on the ids. -/
theorem frame_ideal_pre : Cert.quiescent_KernelIdeal_pre_ids_in_range_KernelIdeal := fun m ρ _ => frame_of (F := Ideal) m ρ

/-- The reference is a straight line of host operations: it runs, keeps its arguments, and has no counter to leave. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same, stated with the bound on the ids. -/
theorem frame_reference_pre : Cert.quiescent_ReferenceIdeal_pre_ids_in_range_ReferenceIdeal := fun m ρ _ => frame_reference m ρ trivial

/-- With every id in range and floats exact, each device of the kernel ends with the whole of what the reference computes: for each
    token, the row of the whole table its id names. -/
theorem algebraic : Cert.algebraic_KernelIdeal_ReferenceIdeal_pre_ids_in_range_KernelIdeal := by
  intro m g m' g' hpre hag
  have hb := Cert.KernelIdeal.Talk.ids_bound _ _ (hpre 0)
  rw [(hag 0).1] at hb
  have hrow : ∀ r : Fin 4096, (m' (((0 : Dev Cert.ReferenceIdeal.nD).tc : Thread Cert.ReferenceIdeal.nD Cert.ReferenceIdeal.τ).loc Cert.ReferenceIdeal.main_arg0) : IVec (⟨1, ![4096]⟩ : Shape) 32) (ix1 r)
      = BitVec.ofNat 32 (⟨_, hb r⟩ : Fin 16384).val := fun r => ((BitVec.ofNat_toNat 32 _).trans (BitVec.setWidth_eq _)).symm
  refine ⟨_, (θ_run Cert.KernelIdeal.defs _ _).mono (fun _ h c => ⟨(h.1 c).1.trans
      (Cert.KernelIdeal.Talk.result_looked_up m _ _ (fun c => (hag c).1) (fun c => (hag c).2) _ hrow c), (h.1 c).2⟩)
      (Cert.KernelIdeal.Talk.run_main (F := Ideal) m g),
    (θ_run Cert.ReferenceIdeal.defs _ _).mono (fun _ h => ⟨(h 0).1.trans (Cert.KernelIdeal.Talk.reference_at _ _ _ hrow), (h 0).2⟩)
      (Cert.ReferenceIdeal.Value.run (F := Ideal) m' g')⟩

/-- All claims together. -/
theorem claim : Cert.Claim := ⟨Cert.Kernel.Gen.facts, Cert.KernelIdeal.Gen.facts, Cert.ReferenceIdeal.Gen.facts, Cert.Pre_ids_in_range_KernelIdeal.Gen.facts, Cert.Pre_ids_in_range_ReferenceIdeal.Gen.facts, by
  refine ⟨frame_kernel, frame_ideal, frame_ideal_pre, frame_reference, frame_reference_pre, trivial, algebraic⟩⟩

end Cert.Proof

end
